-- ==== Defs.lean ====
def Pre_Packed (m : (ℓ : Loc Cert.Packed.nD Cert.Packed.τ Cert.Packed.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_two_nonnegative [hPre_first_two_nonnegative : Cert.Pre_first_two_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_first_two_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_two_nonnegative [hPre_first_two_nonnegative : Cert.Pre_first_two_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_two_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Packed [hPacked : Cert.Packed.Facts] : Prop :=
  ∀ (m : (ℓ : Loc Cert.Packed.nD Cert.Packed.τ Cert.Packed.sig) → Buf (Elt Bits) ℓ) (g : Dev Cert.Packed.nD → PrngReg), Pre_Packed m →
    θ_run (Cert.Packed.defs (F := Bits)) (onTc (τ := Cert.Packed.τ) (Cert.Packed.main (F := Bits))) ⟨m, fun _ => 0, g⟩ (fun r => (∀ c : Dev Cert.Packed.nD,
      r.2.mem ((c.tc : Thread Cert.Packed.nD Cert.Packed.τ).loc Cert.Packed.main_arg0) = m ((c.tc : Thread Cert.Packed.nD Cert.Packed.τ).loc Cert.Packed.main_arg0)
      ∧ r.2.mem ((c.tc : Thread Cert.Packed.nD Cert.Packed.τ).loc Cert.Packed.main_arg1) = m ((c.tc : Thread Cert.Packed.nD Cert.Packed.τ).loc Cert.Packed.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_first_two_nonnegative [hKernelIdeal : Cert.KernelIdeal.Facts] [hPre_first_two_nonnegative : Cert.Pre_first_two_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_two_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_first_two_nonnegative [hReferenceIdeal : Cert.ReferenceIdeal.Facts] [hPre_first_two_nonnegative : Cert.Pre_first_two_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_two_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_first_two_nonnegative [hKernelIdeal : Cert.KernelIdeal.Facts] [hReferenceIdeal : Cert.ReferenceIdeal.Facts] [hPre_first_two_nonnegative : Cert.Pre_first_two_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_two_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hPacked : Cert.Packed.Facts) (hKernel : Cert.Kernel.Facts) (hKernelIdeal : Cert.KernelIdeal.Facts) (hReferenceIdeal : Cert.ReferenceIdeal.Facts) (hPre_first_two_nonnegative : Cert.Pre_first_two_nonnegative.Facts),
    quiescent_Packed (hPacked := hPacked)
    ∧ quiescent_Kernel (hKernel := hKernel)
    ∧ quiescent_KernelIdeal (hKernelIdeal := hKernelIdeal)
    ∧ quiescent_KernelIdeal_pre_first_two_nonnegative (hKernelIdeal := hKernelIdeal) (hPre_first_two_nonnegative := hPre_first_two_nonnegative)
    ∧ quiescent_ReferenceIdeal (hReferenceIdeal := hReferenceIdeal)
    ∧ quiescent_ReferenceIdeal_pre_first_two_nonnegative (hReferenceIdeal := hReferenceIdeal) (hPre_first_two_nonnegative := hPre_first_two_nonnegative)
    ∧ preserves_Kernel_KernelIdeal
    ∧ algebraic_KernelIdeal_ReferenceIdeal_pre_first_two_nonnegative (hKernelIdeal := hKernelIdeal) (hReferenceIdeal := hReferenceIdeal) (hPre_first_two_nonnegative := hPre_first_two_nonnegative)
-- ==== Pre_first_two_nonnegative.lean ====
abbrev S524288x128 : Shape := ⟨2, ![524288, 128]⟩
abbrev S524288 : Shape := ⟨1, ![524288]⟩
abbrev S2 : Shape := ⟨1, ![2]⟩
abbrev S_ : Shape := ⟨0, ![]⟩

class Facts : Prop where
  slices_S524288_S2_0 : S524288.Slices ![0] S2
  bcast_S_S2 : S_.BroadcastsInDim S2 (![] : Fin 0 → Fin S2.rank)

variable [Facts]

def fn {F : FTy → Type} [FloatOps F] (main_arg0 : FVec F S524288x128 .f32) (main_arg1 : IVec S524288 32) : IVec S2 1 :=
  let main_v0 : IVec S2 32 := (extractStridedSlice S2 ![0] · slices_S524288_S2_0) main_arg1
  let main_c : IVec S_ 32 := constantI S_ 32 0#32
  let main_v1 : IVec S2 32 := broadcastInDim S2 ![] bcast_S_S2 main_c
  let main_v2 : IVec S2 1 := cmpi .sge main_v0 main_v1
  main_v2
-- ==== Packed.lean ====
abbrev S524288x128 : Shape := ⟨2, ![524288, 128]⟩
abbrev S524288 : Shape := ⟨1, ![524288]⟩
abbrev S2 : Shape := ⟨1, ![2]⟩
abbrev S4096x128x128 : Shape := ⟨3, ![4096, 128, 128]⟩
abbrev S4096x128 : Shape := ⟨2, ![4096, 128]⟩
abbrev S8x128 : Shape := ⟨2, ![8, 128]⟩
abbrev S4x128 : Shape := ⟨2, ![4, 128]⟩
abbrev S256x128x128 : Shape := ⟨3, ![256, 128, 128]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 6
  | .vmem => 7
  | .smem => 1
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S4096x128x128, .f32⟩
  | .hbm, ⟨3, _⟩ => ⟨S4096x128, .i32⟩
  | .hbm, ⟨4, _⟩ => ⟨S8x128, .f32⟩
  | .hbm, ⟨5, _⟩ => ⟨S4x128, .f32⟩
  | .local _ .vmem, ⟨0, _⟩ => ⟨S256x128x128, .f32⟩
  | .local _ .vmem, ⟨1, _⟩ => ⟨S256x128x128, .f32⟩
  | .local _ .vmem, ⟨2, _⟩ => ⟨S256x128, .i32⟩
  | .local _ .vmem, ⟨3, _⟩ => ⟨S256x128, .i32⟩
  | .local _ .vmem, ⟨4, _⟩ => ⟨S8x128, .f32⟩
  | .local _ .vmem, ⟨5, _⟩ => ⟨S4x128, .f32⟩
  | .local _ .vmem, ⟨6, _⟩ => ⟨S256x128, .f32⟩
  | .local _ .smem, ⟨0, _⟩ => ⟨S2, .i32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [BitOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_11 : BitVec 32 := 0#32
  let v31 : BitVec 1 := Scalar.cmpi .ne v30 c0_i32_11
  v31

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Kernel.lean ====
abbrev S524288x128 : Shape := ⟨2, ![524288, 128]⟩
abbrev S524288 : Shape := ⟨1, ![524288]⟩
abbrev S2 : Shape := ⟨1, ![2]⟩
abbrev S4096x128x128 : Shape := ⟨3, ![4096, 128, 128]⟩
abbrev S4096x128 : Shape := ⟨2, ![4096, 128]⟩
abbrev S8x128 : Shape := ⟨2, ![8, 128]⟩
abbrev S4x128 : Shape := ⟨2, ![4, 128]⟩
abbrev S256x128x128 : Shape := ⟨3, ![256, 128, 128]⟩
abbrev S256x128 : Shape := ⟨2, ![256, 128]⟩
abbrev S256x128x1 : Shape := ⟨3, ![256, 128, 1]⟩
abbrev S1x256x128 : Shape := ⟨3, ![1, 256, 128]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 6
  | .vmem => 7
  | .smem => 1
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S4096x128x128, .f32⟩
  | .hbm, ⟨3, _⟩ => ⟨S4096x128, .i32⟩
  | .hbm, ⟨4, _⟩ => ⟨S8x128, .f32⟩
  | .hbm, ⟨5, _⟩ => ⟨S4x128, .f32⟩
  | .local _ .vmem, ⟨0, _⟩ => ⟨S256x128x128, .f32⟩
  | .local _ .vmem, ⟨1, _⟩ => ⟨S256x128x128, .f32⟩
  | .local _ .vmem, ⟨2, _⟩ => ⟨S256x128, .i32⟩
  | .local _ .vmem, ⟨3, _⟩ => ⟨S256x128, .i32⟩
  | .local _ .vmem, ⟨4, _⟩ => ⟨S8x128, .f32⟩
  | .local _ .vmem, ⟨5, _⟩ => ⟨S4x128, .f32⟩
  | .local _ .vmem, ⟨6, _⟩ => ⟨S256x128, .f32⟩
  | .local _ .smem, ⟨0, _⟩ => ⟨S2, .i32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_12 : BitVec 32 := 0#32
  let v29 : BitVec 1 := Scalar.cmpi .ne v28 c0_i32_12
  v29

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S524288x128 : Shape := ⟨2, ![524288, 128]⟩
abbrev S524288 : Shape := ⟨1, ![524288]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S128 : Shape := ⟨1, ![128]⟩
abbrev S1x128 : Shape := ⟨2, ![1, 128]⟩
abbrev S4x128 : Shape := ⟨2, ![4, 128]⟩

abbrev nBuf : Space → Nat
  | .hbm => 149
  | .vmem => 0
  | .smem => 0
  | _ => 0

abbrev hbmTy0_0 (i : Nat) : BufTy := match i % 128 with
  | 0 => ⟨S524288x128, .f32⟩
  | 1 => ⟨S524288, .i32⟩
  | 2 => ⟨S_, .i32⟩
  | 3 => ⟨S524288, .i32⟩
  | 4 => ⟨S524288, .f32⟩
  | 5 => ⟨S524288x128, .i32⟩
  | 6 => ⟨S_, .f32⟩
  | 7 => ⟨S_, .i32⟩
  | 8 => ⟨S524288, .f32⟩
  | 9 => ⟨S524288, .i32⟩
  | 10 => ⟨S524288, .f32⟩
  | 11 => ⟨S524288, .i1⟩
  | 12 => ⟨S524288, .i32⟩
  | 13 => ⟨S524288, .i32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S1, .i32⟩
  | 23 => ⟨S_, .i32⟩
  | 24 => ⟨S524288x1, .i32⟩
  | 25 => ⟨S524288x1, .i1⟩
  | 26 => ⟨S1x1, .i32⟩
  | 27 => ⟨S524288x1, .i32⟩
  | 28 => ⟨S524288x1, .i1⟩
  | 29 => ⟨S524288x1, .i1⟩
  | 30 => ⟨S_, .i1⟩
  | 31 => ⟨S524288, .i1⟩
  | 32 => ⟨S524288, .f32⟩
  | 33 => ⟨S_, .f32⟩
  | 34 => ⟨S524288, .f32⟩
  | 35 => ⟨S524288, .f32⟩
  | 36 => ⟨S524288, .i32⟩
  | 37 => ⟨S_, .i32⟩
  | 38 => ⟨S128, .i32⟩
  | 39 => ⟨S_, .i32⟩
  | 40 => ⟨S_, .i32⟩
  | 41 => ⟨S524288, .i32⟩
  | 42 => ⟨S524288, .i32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S524288x1, .i32⟩
  | 51 => ⟨S_, .i32⟩
  | 52 => ⟨S524288, .i32⟩
  | 53 => ⟨S128, .i32⟩
  | 54 => ⟨S128, .f32⟩
  | 55 => ⟨S_, .i32⟩
  | 56 => ⟨S524288, .i32⟩
  | 57 => ⟨S524288, .i1⟩
  | 58 => ⟨S_, .i32⟩
  | 59 => ⟨S524288, .i32⟩
  | 60 => ⟨S524288, .i32⟩
  | 61 => ⟨S524288, .i32⟩
  | 62 => ⟨S524288x1, .i32⟩
  | 63 => ⟨S1, .i32⟩
  | 64 => ⟨S_, .i32⟩
  | 65 => ⟨S524288x1, .i32⟩
  | 66 => ⟨S524288x1, .i1⟩
  | 67 => ⟨S1x1, .i32⟩
  | 68 => ⟨S524288x1, .i32⟩
  | 69 => ⟨S524288x1, .i1⟩
  | 70 => ⟨S524288x1, .i1⟩
  | 71 => ⟨S_, .i1⟩
  | 72 => ⟨S524288, .i1⟩
  | 73 => ⟨S524288, .f32⟩
  | 74 => ⟨S_, .f32⟩
  | 75 => ⟨S524288, .f32⟩
  | 76 => ⟨S524288, .f32⟩
  | 77 => ⟨S524288, .i32⟩
  | 78 => ⟨S_, .i32⟩
  | 79 => ⟨S128, .i32⟩
  | 80 => ⟨S_, .i32⟩
  | 81 => ⟨S_, .i32⟩
  | 82 => ⟨S524288, .i32⟩
  | 83 => ⟨S524288, .i32⟩
  | 84 => ⟨S_, .i32⟩
  | 85 => ⟨S524288, .i32⟩
  | 86 => ⟨S524288, .i1⟩
  | 87 => ⟨S_, .i32⟩
  | 88 => ⟨S524288, .i32⟩
  | 89 => ⟨S524288, .i32⟩
  | 90 => ⟨S524288, .i32⟩
  | 91 => ⟨S524288x1, .i32⟩
  | 92 => ⟨S_, .i32⟩
  | 93 => ⟨S524288, .i32⟩
  | 94 => ⟨S128, .i32⟩
  | 95 => ⟨S128, .f32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S524288x1, .i32⟩
  | 104 => ⟨S1, .i32⟩
  | 105 => ⟨S_, .i32⟩
  | 106 => ⟨S524288x1, .i32⟩
  | 107 => ⟨S524288x1, .i1⟩
  | 108 => ⟨S1x1, .i32⟩
  | 109 => ⟨S524288x1, .i32⟩
  | 110 => ⟨S524288x1, .i1⟩
  | 111 => ⟨S524288x1, .i1⟩
  | 112 => ⟨S_, .i1⟩
  | 113 => ⟨S524288, .i1⟩
  | 114 => ⟨S524288, .f32⟩
  | 115 => ⟨S_, .f32⟩
  | 116 => ⟨S524288, .f32⟩
  | 117 => ⟨S524288, .f32⟩
  | 118 => ⟨S524288, .i32⟩
  | 119 => ⟨S_, .i32⟩
  | 120 => ⟨S128, .i32⟩
  | 121 => ⟨S_, .i32⟩
  | 122 => ⟨S_, .i32⟩
  | 123 => ⟨S524288, .i32⟩
  | 124 => ⟨S524288, .i32⟩
  | 125 => ⟨S_, .i32⟩
  | 126 => ⟨S524288, .i32⟩
  | 127 => ⟨S524288, .i1⟩
  | _ => ⟨S524288x128, .f32⟩

abbrev hbmTy0_1 (i : Nat) : BufTy := match i % 128 with
  | 0 => ⟨S_, .i32⟩
  | 1 => ⟨S524288, .i32⟩
  | 2 => ⟨S524288, .i32⟩
  | 3 => ⟨S524288, .i32⟩
  | 4 => ⟨S524288x1, .i32⟩
  | 5 => ⟨S_, .i32⟩
  | 6 => ⟨S524288, .i32⟩
  | 7 => ⟨S128, .i32⟩
  | 8 => ⟨S128, .f32⟩
  | 9 => ⟨S_, .f32⟩
  | 10 => ⟨S128, .f32⟩
  | 11 => ⟨S_, .i32⟩
  | 12 => ⟨S_, .i32⟩
  | 13 => ⟨S_, .f32⟩
  | 14 => ⟨S128, .f32⟩
  | 15 => ⟨S128, .f32⟩
  | 16 => ⟨S1x128, .f32⟩
  | 17 => ⟨S1x128, .f32⟩
  | 18 => ⟨S1x128, .f32⟩
  | 19 => ⟨S1x128, .f32⟩
  | 20 => ⟨S4x128, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v7 : Ref sig .tc := ⟨.hbm, 35, rfl⟩
abbrev main_v8 : Ref sig .tc := ⟨.hbm, 36, rfl⟩
abbrev main_c_0 : Ref sig .tc := ⟨.hbm, 37, rfl⟩
abbrev main_v9 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_v10 : Ref sig .tc := ⟨.hbm, 42, rfl⟩
abbrev main_c_2 : Ref sig .tc := ⟨.hbm, 43, rfl⟩
abbrev main_v11 : Ref sig .tc := ⟨.hbm, 44, rfl⟩
abbrev main_v12 : Ref sig .tc := ⟨.hbm, 45, rfl⟩
abbrev main_c_3 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c_4 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v20 : Ref sig .tc := ⟨.hbm, 76, rfl⟩
abbrev main_v21 : Ref sig .tc := ⟨.hbm, 77, rfl⟩
abbrev main_c_5 : Ref sig .tc := ⟨.hbm, 78, rfl⟩
abbrev main_v22 : Ref sig .tc := ⟨.hbm, 79, rfl⟩
abbrev main_c_6 : Ref sig .tc := ⟨.hbm, 80, rfl⟩
abbrev main_call4_v0 : Ref sig .tc := ⟨.hbm, 81, rfl⟩
abbrev main_call4_v1 : Ref sig .tc := ⟨.hbm, 82, rfl⟩
abbrev main_v23 : Ref sig .tc := ⟨.hbm, 83, rfl⟩
abbrev main_c_7 : Ref sig .tc := ⟨.hbm, 84, rfl⟩
abbrev main_v24 : Ref sig .tc := ⟨.hbm, 85, rfl⟩
abbrev main_v25 : Ref sig .tc := ⟨.hbm, 86, rfl⟩
abbrev main_c_8 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_c_9 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_call5_c : Ref sig .tc := ⟨.hbm, 96, rfl⟩
abbrev main_call5_v0 : Ref sig .tc := ⟨.hbm, 97, rfl⟩
abbrev main_call5_v1 : Ref sig .tc := ⟨.hbm, 98, rfl⟩
abbrev main_call5_c_0 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_c_1 : Ref sig .tc := ⟨.hbm, 104, rfl⟩
abbrev main_call5_c_2 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_c_3 : Ref sig .tc := ⟨.hbm, 112, rfl⟩
abbrev main_call5_v12 : Ref sig .tc := ⟨.hbm, 113, rfl⟩
abbrev main_call5_v13 : Ref sig .tc := ⟨.hbm, 114, rfl⟩
abbrev main_call5_cst : Ref sig .tc := ⟨.hbm, 115, rfl⟩
abbrev main_call5_v14 : Ref sig .tc := ⟨.hbm, 116, rfl⟩
abbrev main_v33 : Ref sig .tc := ⟨.hbm, 117, rfl⟩
abbrev main_v34 : Ref sig .tc := ⟨.hbm, 118, rfl⟩
abbrev main_c_10 : Ref sig .tc := ⟨.hbm, 119, rfl⟩
abbrev main_v35 : Ref sig .tc := ⟨.hbm, 120, rfl⟩
abbrev main_c_11 : Ref sig .tc := ⟨.hbm, 121, rfl⟩
abbrev main_call6_v0 : Ref sig .tc := ⟨.hbm, 122, rfl⟩
abbrev main_call6_v1 : Ref sig .tc := ⟨.hbm, 123, rfl⟩
abbrev main_v36 : Ref sig .tc := ⟨.hbm, 124, rfl⟩
abbrev main_c_12 : Ref sig .tc := ⟨.hbm, 125, rfl⟩
abbrev main_v37 : Ref sig .tc := ⟨.hbm, 126, rfl⟩
abbrev main_v38 : Ref sig .tc := ⟨.hbm, 127, rfl⟩
abbrev main_c_13 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_c_14 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_cst : Ref sig .tc := ⟨.hbm, 137, rfl⟩
abbrev main_v46 : Ref sig .tc := ⟨.hbm, 138, rfl⟩
abbrev main_c_15 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩

abbrev nD : Nat := 1
abbrev τ : Topo := Topo.v7x

variable {F : FTy → Type} [FloatOps F]
-- ==== Proof.Top.lean ====
/-
  The first greatest entry of a row of extended reals, and two ways of finding it: by the code of the lanes that
  reach the row's maximum, and by a preference between pairs of a value and an index.
-/
module

public import Idealize.ShloMosaic.PureOps.Ideal
public import Idealize.ShloMosaic.PureOps.Reduce
public import Mathlib.Data.EReal.Basic

@[expose] public section
noncomputable section

/-!
  The position of the greatest entry of a row of extended reals, the first one where several are equally great, and
  the two ways the programs find it: a maximum over lane codes (the kernel), and a fold over pairs of a value and a
  position (the reference).
-/

namespace Cert.Proof

open Idealize.ShloMosaic

variable {n : ℕ}

/-- Position `i` holds the greatest entry of `f`, and no earlier position holds an equal one. -/
def IsTop (f : Fin n → EReal) (i : Fin n) : Prop := ∀ l, f l < f i ∨ (f l = f i ∧ i ≤ l)

/-- A row of at least one entry has such a position. -/
theorem exists_isTop (f : Fin (n + 1) → EReal) : ∃ i, IsTop f i := by
  obtain ⟨k, hk⟩ := Finite.exists_max f
  have hne : (Finset.univ.filter fun l => f l = f k).Nonempty := ⟨k, by simp⟩
  refine ⟨(Finset.univ.filter fun l => f l = f k).min' hne, fun l => ?_⟩
  have hi := Finset.min'_mem _ hne
  rw [Finset.mem_filter] at hi
  rw [hi.2]
  rcases lt_or_eq_of_le (hk l) with h | h
  · exact .inl h
  · exact .inr ⟨h, Finset.min'_le _ _ (by simp [h])⟩

/-- There is only one such position. -/
theorem IsTop.unique {f : Fin n → EReal} {i j : Fin n} (hi : IsTop f i) (hj : IsTop f j) : i = j := by
  rcases hi j with h | ⟨h, h'⟩ <;> rcases hj i with g | ⟨g, g'⟩
  · exact absurd h (lt_asymm g)
  · exact absurd h (by rw [g]; exact lt_irrefl _)
  · exact absurd g (by rw [h]; exact lt_irrefl _)
  · exact le_antisymm h' g'

/-- The first position of the greatest entry. -/
def top (f : Fin (n + 1) → EReal) : Fin (n + 1) := (exists_isTop f).choose

/-- `top f` is that position. -/
theorem isTop_top (f : Fin (n + 1) → EReal) : IsTop f (top f) := (exists_isTop f).choose_spec

/-- A position with the property is `top f`. -/
theorem top_eq {f : Fin (n + 1) → EReal} {i : Fin (n + 1)} (hi : IsTop f i) : top f = i := (isTop_top f).unique hi

/-- No entry is greater than the one at `top f`. -/
theorem le_top_apply (f : Fin (n + 1) → EReal) (l : Fin (n + 1)) : f l ≤ f (top f) := by
  rcases isTop_top f l with h | h
  · exact h.le
  · exact h.1.le

/-- An entry as great as the greatest is at `top f` or after it. -/
theorem top_le_of_eq (f : Fin (n + 1) → EReal) (l : Fin (n + 1)) (h : f l = f (top f)) : top f ≤ l := by
  rcases isTop_top f l with h' | h'
  · exact absurd h h'.ne
  · exact h'.2

/-! ### Folds of a maximum -/

/-- The word the reductions of a maximum start from stands for the least extended real. -/
theorem ofBits_start : Ideal.ofBits .f32 4286578688#32 = (⊥ : EReal) := by
  simp [Ideal.ofBits, Ideal.ieee]

/-- A maximum over all positions of a family that reaches its greatest value at `i` is that value. -/
theorem fold_max_eq {ι : Type} [Fintype ι] (f : ι → EReal) (i : ι) (h : ∀ l, f l ≤ f i) :
    Finset.fold max (⊥ : EReal) f Finset.univ = f i := by
  refine le_antisymm ?_ ?_
  · exact (Finset.fold_max_le (s := Finset.univ) (f := f) (b := (⊥ : EReal)) (f i)).mpr ⟨bot_le, fun l _ => h l⟩
  · exact (Finset.le_fold_max (s := Finset.univ) (f := f) (b := (⊥ : EReal)) (f i)).mpr (.inr ⟨i, Finset.mem_univ i, le_rfl⟩)

/-- The signed maximum of two words is one of them and not below the other. -/
theorem toInt_maxsi (x y : BitVec 32) : (IntOp.maxsi x y).toInt = max x.toInt y.toInt := by
  unfold IntOp.maxsi; simp only [BitVec.slt, decide_eq_true_eq]; split <;> omega

/-- The signed minimum of two words is one of them and not above the other. -/
theorem toInt_minsi (x y : BitVec 32) : (IntOp.minsi x y).toInt = min x.toInt y.toInt := by
  unfold IntOp.minsi; simp only [BitVec.slt, decide_eq_true_eq]; split <;> omega

/-- A signed maximum of words, started from the least word, is the word that no other exceeds. -/
theorem fold_maxsi_eq {ι : Type} [Fintype ι] (f : ι → BitVec 32) (i : ι) (h : ∀ l, (f l).toInt ≤ (f i).toInt) :
    Finset.fold IntOp.maxsi (2147483648#32) f Finset.univ = f i := by
  classical
  apply BitVec.eq_of_toInt_eq
  have key : ∀ s : Finset ι, (Finset.fold IntOp.maxsi (2147483648#32) f s).toInt ≤ (f i).toInt ∧
      (i ∈ s → (f i).toInt ≤ (Finset.fold IntOp.maxsi (2147483648#32) f s).toInt) := by
    intro s
    induction s using Finset.induction_on with
    | empty =>
      refine ⟨?_, fun h => absurd h (Finset.notMem_empty i)⟩
      rw [Finset.fold_empty]
      have := BitVec.le_toInt (f i)
      have e : (2147483648#32).toInt = -2147483648 := by decide
      omega
    | insert a s ha ih =>
      rw [Finset.fold_insert ha, toInt_maxsi]
      refine ⟨max_le (h a) ih.1, fun hi => ?_⟩
      rcases Finset.mem_insert.mp hi with rfl | hi
      · exact le_max_left _ _
      · exact le_max_of_le_right (ih.2 hi)
  exact le_antisymm (key _).1 ((key _).2 (Finset.mem_univ i))

/-- A signed minimum of words, started from the greatest word, is the word that is below every other. -/
theorem fold_minsi_eq {ι : Type} [Fintype ι] (f : ι → BitVec 32) (i : ι) (h : ∀ l, (f i).toInt ≤ (f l).toInt) :
    Finset.fold IntOp.minsi (2147483647#32) f Finset.univ = f i := by
  classical
  apply BitVec.eq_of_toInt_eq
  have key : ∀ s : Finset ι, (f i).toInt ≤ (Finset.fold IntOp.minsi (2147483647#32) f s).toInt ∧
      (i ∈ s → (Finset.fold IntOp.minsi (2147483647#32) f s).toInt ≤ (f i).toInt) := by
    intro s
    induction s using Finset.induction_on with
    | empty =>
      refine ⟨?_, fun h => absurd h (Finset.notMem_empty i)⟩
      rw [Finset.fold_empty]
      have := BitVec.toInt_lt (x := f i)
      have e : (2147483647#32).toInt = 2147483647 := by decide
      omega
    | insert a s ha ih =>
      rw [Finset.fold_insert ha, toInt_minsi]
      refine ⟨le_min (h a) ih.1, fun hi => ?_⟩
      rcases Finset.mem_insert.mp hi with rfl | hi
      · exact min_le_left _ _
      · exact min_le_of_right_le (ih.2 hi)
  exact le_antisymm ((key _).2 (Finset.mem_univ i)) (key _).1

/-! ### Small words -/

/-- A lane number, as a word, is the number. -/
theorem toInt_lane (i : Fin 128) : (BitVec.ofNat 32 i.val).toInt = i.val := by
  rw [BitVec.toInt_eq_toNat_cond, BitVec.toNat_ofNat]; have := i.isLt; omega

/-- The code of a lane, as a number: 127 minus the lane. -/
theorem toInt_code (i : Fin 128) : (IntOp.subi 127#32 (BitVec.ofNat 32 i.val)).toInt = 127 - i.val := by
  revert i; decide

/-- The greatest code among the lanes that hold the greatest entry is the code of the first of them. -/
theorem fold_code (f : Fin 128 → EReal) :
    Finset.fold IntOp.maxsi (2147483648#32)
      (fun x => if f x = Finset.fold max (Ideal.ofBits .f32 4286578688#32) (fun x => f x) Finset.univ
        then IntOp.subi (127#32) (BitVec.ofNat 32 x.val) else 0#32) Finset.univ
      = IntOp.subi (127#32) (BitVec.ofNat 32 (top f).val) := by
  rw [ofBits_start, fold_max_eq f (top f) (le_top_apply f), fold_maxsi_eq _ (top f) (fun l => ?_), if_pos rfl]
  rw [if_pos rfl, toInt_code]
  have hl := (top f).isLt
  split
  · rename_i h
    rw [toInt_code]
    have := top_le_of_eq f l h
    have : (top f).val ≤ l.val := this
    omega
  · have e : (0#32).toInt = 0 := by decide
    omega

/-- A code and a label add up to 127 exactly when the label is the lane. -/
theorem code_add_eq (i : Fin 128) (w : BitVec 32) :
    IntOp.addi (IntOp.subi (127#32) (BitVec.ofNat 32 i.val)) w = 127#32 ↔ w = BitVec.ofNat 32 i.val := by
  unfold IntOp.addi IntOp.subi
  constructor
  · intro h; bv_omega
  · rintro rfl; bv_omega

/-! ### A fold over pairs -/

/-- Pair `a` is preferred to pair `b`: a greater value, or an equal one and a position not after `b`'s. -/
def Pref (a b : EReal × BitVec 32) : Prop := b.1 < a.1 ∨ (b.1 = a.1 ∧ a.2.toInt ≤ b.2.toInt)

/-- The preference is reflexive. -/
theorem Pref.refl (a : EReal × BitVec 32) : Pref a a := .inr ⟨rfl, le_rfl⟩

/-- The preference is transitive. -/
theorem Pref.trans {a b c : EReal × BitVec 32} (h : Pref a b) (g : Pref b c) : Pref a c := by
  rcases h with h | ⟨h, h'⟩ <;> rcases g with g | ⟨g, g'⟩
  · exact .inl (g.trans h)
  · exact .inl (g ▸ h)
  · exact .inl (h ▸ g)
  · exact .inr ⟨g.trans h, h'.trans g'⟩

/-- Two pairs each preferred to the other are equal. -/
theorem Pref.antisymm {a b : EReal × BitVec 32} (h : Pref a b) (g : Pref b a) : a = b := by
  rcases h with h | ⟨h, h'⟩ <;> rcases g with g | ⟨g, g'⟩
  · exact absurd h (lt_asymm g)
  · exact absurd h (by rw [g]; exact lt_irrefl _)
  · exact absurd g (by rw [h]; exact lt_irrefl _)
  · exact Prod.ext h.symm (BitVec.eq_of_toInt_eq (le_antisymm h' g'))

/-- A fold that keeps one of two pairs, the preferred one, ends with a pair that is among those folded and preferred to
    all of them. -/
theorem foldl_pref (r : EReal × BitVec 32 → EReal × BitVec 32 → EReal × BitVec 32)
    (hr : ∀ a b, (r a b = a ∨ r a b = b) ∧ Pref (r a b) a ∧ Pref (r a b) b) (L : List (EReal × BitVec 32)) :
    ∀ a, (L.foldl r a = a ∨ L.foldl r a ∈ L) ∧ Pref (L.foldl r a) a ∧ ∀ p ∈ L, Pref (L.foldl r a) p := by
  induction L with
  | nil => intro a; exact ⟨.inl rfl, Pref.refl a, fun p hp => absurd hp (List.not_mem_nil)⟩
  | cons b L ih =>
    intro a
    rw [List.foldl_cons]
    obtain ⟨h1, h2, h3⟩ := ih (r a b)
    obtain ⟨g1, g2, g3⟩ := hr a b
    refine ⟨?_, h2.trans g2, fun p hp => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.mp hp with rfl | hp
      · exact h2.trans g3
      · exact h3 p hp

/-- Over the pairs of a row's entries and lane numbers, from the least value and lane 0, such a fold ends at the first
    position of the greatest entry. -/
theorem foldl_top (r : EReal × BitVec 32 → EReal × BitVec 32 → EReal × BitVec 32)
    (hr : ∀ a b, (r a b = a ∨ r a b = b) ∧ Pref (r a b) a ∧ Pref (r a b) b) (f : Fin 128 → EReal)
    (L : List (EReal × BitVec 32)) (hL : ∀ p, p ∈ L ↔ ∃ l : Fin 128, p = (f l, BitVec.ofNat 32 l.val)) :
    L.foldl r (⊥, 0#32) = (f (top f), BitVec.ofNat 32 (top f).val) := by
  obtain ⟨h1, h2, h3⟩ := foldl_pref r hr L (⊥, 0#32)
  have ht : Pref (L.foldl r (⊥, 0#32)) (f (top f), BitVec.ofNat 32 (top f).val) := h3 _ ((hL _).mpr ⟨top f, rfl⟩)
  refine ht.antisymm ?_
  rcases h1 with h1 | h1
  · rw [h1] at h3 ht ⊢
    -- the start pair won: every entry is the least value, and lane 0 is first
    have h0 := h3 _ ((hL _).mpr ⟨0, rfl⟩)
    rcases ht with ht | ⟨ht, ht'⟩
    · exact absurd ht not_lt_bot
    · refine .inr ⟨ht.symm, ?_⟩
      have e : f 0 = f (top f) := by
        rw [show f (top f) = ⊥ from ht]
        exact le_bot_iff.mp ((le_top_apply f 0).trans (le_of_eq ht))
      have := top_le_of_eq f 0 e
      have h00 : top f = 0 := le_antisymm this (Fin.zero_le _)
      show (BitVec.ofNat 32 (top f).val).toInt ≤ (0#32).toInt
      rw [h00]; decide
  · obtain ⟨l, hl⟩ := (hL _).mp h1
    rw [hl]
    rcases isTop_top f l with h | ⟨h, h'⟩
    · exact .inl h
    · exact .inr ⟨h, by show (BitVec.ofNat 32 (top f).val).toInt ≤ (BitVec.ofNat 32 l.val).toInt
                        rw [toInt_lane, toInt_lane]; exact_mod_cast h'⟩

end Cert.Proof

end
-- ==== Proof.Spec.lean ====
/-
  The result of the problem, stated on plain functions: both programs are shown to compute it.
-/
module

public import proofs.«01_k».proof.Proof.Top
public import Idealize.ShloMosaic.PureOps.Ideal

@[expose] public section
noncomputable section
namespace Cert.Proof

/-- The first position of row `n`'s greatest logit, as a word. -/
def guess (X : Fin 524288 → Fin 128 → EReal) (n : Fin 524288) : BitVec 32 := BitVec.ofNat 32 (top (X n)).val

/-- The number of rows whose label is the position of their greatest logit. -/
def hits (X : Fin 524288 → Fin 128 → EReal) (Y : Fin 524288 → BitVec 32) : ℕ :=
  (Finset.univ.filter fun n => Y n = guess X n).card

/-- The four rows of the result at lane `l`.  Row 0 counts, for each row of the batch, the label of row 1 where the
    prediction is right and the label of row 0 where it is wrong; row 1 counts row 1's prediction once per row, row 2 the
    label of row 1 once per row, and row 3 holds the number of rows. -/
def spec (X : Fin 524288 → Fin 128 → EReal) (Y : Fin 524288 → BitVec 32) (r : Fin 4) (l : Fin 128) : EReal :=
  if r = 0 then
    (if BitVec.ofNat 32 l.val = Y 0 then ((524288 : ℝ) : EReal) - ((hits X Y : ℝ) : EReal) else 0)
      + (if BitVec.ofNat 32 l.val = Y 1 then ((hits X Y : ℝ) : EReal) else 0)
  else if r = 1 then (if l = top (X 1) then ((524288 : ℝ) : EReal) else 0)
  else if r = 2 then (if BitVec.ofNat 32 l.val = Y 1 then ((524288 : ℝ) : EReal) else 0)
  else ((524288 : ℝ) : EReal)

end Cert.Proof
end
-- ==== Proof.KernelOut.lean ====
/-
  What the kernel's accumulator and output hold at each grid point, as folds of the body's operations.
-/
module

public import proofs.«01_k».proof.Proof.Gen.KernelIdeal.Frame
public import Idealize.ShloMosaic.PureOps.Ideal
public import Idealize.ShloMosaic.Lib.Pipeline.ValueKit
import Idealize.ShloMosaic.Lib.Pipeline.ReadBack
import Idealize.ShloMosaic.Lib.Claim

@[expose] public section
set_option maxRecDepth 16384
noncomputable section
namespace Cert.Proof.Ker
open Cert.KernelIdeal Cert.KernelIdeal.Gen Idealize.ShloMosaic

variable (m : (ℓ : Loc nD τ sig) → Buf (Elt Ideal) ℓ) (hO : Ok m) (c : Dev nD)

/-- The four rows as the last grid point computes them, from its completed accumulator `acc`, the block `x2` of the
    first eight rows of logits, and the first two labels `w0`, `w1`. -/
abbrev rows (acc : Vec Ideal S256x128 .f32) (x2 : Vec Ideal S8x128 .f32) (w0 w1 : BitVec 32) : Vec Ideal S4x128 .f32 :=
  k0_pay3 w1 (iota Kind.tc S4x128 32 [1] iota_S4x128_d1_w32) (iota Kind.tc S4x128 32 [0] iota_S4x128_d0_w32)
    (k0_pay4 (F := Ideal)) (k0_pay5 acc w0 w1) (k0_pay6 x2)

/-- At the first point the body leaves in its accumulator the matches of its block over the zero block. -/
theorem sout_A (c : Dev nD) (i : grid0.Coords) (a2 : Memref sig .tc .vmem S256x128x128 .f32) (h2 : a2.IsWhole) (a3 : Memref sig .tc .vmem S256x128 .i32)
    (h3 : a3.IsWhole) (a4 : Memref sig .tc .vmem S8x128 .f32) (h4 : a4.IsWhole) (a5 : Memref sig .tc .vmem S4x128 .f32) (h5 : a5.IsWhole)
    (hc0 : cond0_0 i) (hc1 : ¬cond0_1 i)
    (x0 : Vec Ideal S256x128x128 .f32) (x1 : Vec Ideal S256x128 .i32) (x2 : Vec Ideal S8x128 .f32) (xt : TbBuf0 (F := Ideal) c tbM0_0) :
    sout0_A_0 c i a2 h2 a3 h3 a4 h4 a5 h5 scM0_0 (Memref.isWhole_whole _) hc0 hc1 x0 x1 x2 xt = k0_pay2 x0 x1 (k0_pay1 (F := Ideal)) := by
  frame_out

/-- At an inner point it adds the matches of its block to what the accumulator `xs` held. -/
theorem sout_B (c : Dev nD) (i : grid0.Coords) (a2 : Memref sig .tc .vmem S256x128x128 .f32) (h2 : a2.IsWhole) (a3 : Memref sig .tc .vmem S256x128 .i32)
    (h3 : a3.IsWhole) (a4 : Memref sig .tc .vmem S8x128 .f32) (h4 : a4.IsWhole) (a5 : Memref sig .tc .vmem S4x128 .f32) (h5 : a5.IsWhole)
    (hc0 : ¬cond0_0 i) (hc1 : ¬cond0_1 i)
    (x0 : Vec Ideal S256x128x128 .f32) (x1 : Vec Ideal S256x128 .i32) (x2 : Vec Ideal S8x128 .f32) (xt : TbBuf0 (F := Ideal) c tbM0_0) (xs : Vec Ideal S256x128 .f32) :
    sout0_B_0 c i a2 h2 a3 h3 a4 h4 a5 h5 scM0_0 (Memref.isWhole_whole _) hc0 hc1 x0 x1 x2 xt xs = k0_pay2 x0 x1 xs := by
  frame_out
  simp only [read_unread_whole]

/-- So it does at the last point. -/
theorem sout_C (c : Dev nD) (i : grid0.Coords) (a2 : Memref sig .tc .vmem S256x128x128 .f32) (h2 : a2.IsWhole) (a3 : Memref sig .tc .vmem S256x128 .i32)
    (h3 : a3.IsWhole) (a4 : Memref sig .tc .vmem S8x128 .f32) (h4 : a4.IsWhole) (a5 : Memref sig .tc .vmem S4x128 .f32) (h5 : a5.IsWhole)
    (hc0 : ¬cond0_0 i) (hc1 : cond0_1 i)
    (x0 : Vec Ideal S256x128x128 .f32) (x1 : Vec Ideal S256x128 .i32) (x2 : Vec Ideal S8x128 .f32) (xt : TbBuf0 (F := Ideal) c tbM0_0) (xs : Vec Ideal S256x128 .f32) :
    sout0_C_0 c i a2 h2 a3 h3 a4 h4 a5 h5 scM0_0 (Memref.isWhole_whole _) hc0 hc1 x0 x1 x2 xt xs = k0_pay2 x0 x1 xs := by
  frame_out
  simp only [read_unread_whole]

/-- The last point also writes the four rows, from the accumulator it has just completed; the labels are the words of
    the prefetched table `xt`. -/
theorem out_C (c : Dev nD) (i : grid0.Coords) (a2 : Memref sig .tc .vmem S256x128x128 .f32) (h2 : a2.IsWhole) (a3 : Memref sig .tc .vmem S256x128 .i32)
    (h3 : a3.IsWhole) (a4 : Memref sig .tc .vmem S8x128 .f32) (h4 : a4.IsWhole) (a5 : Memref sig .tc .vmem S4x128 .f32) (h5 : a5.IsWhole)
    (hc0 : ¬cond0_0 i) (hc1 : cond0_1 i)
    (x0 : Vec Ideal S256x128x128 .f32) (x1 : Vec Ideal S256x128 .i32) (x2 : Vec Ideal S8x128 .f32) (xt : TbBuf0 (F := Ideal) c tbM0_0) (xs : Vec Ideal S256x128 .f32) :
    out0_C_3 c i a2 h2 a3 h3 a4 h4 a5 h5 scM0_0 (Memref.isWhole_whole _) hc0 hc1 x0 x1 x2 xt xs
      = rows (k0_pay2 x0 x1 xs) x2 (xt (ValueIdx.ix1 0)) (xt (ValueIdx.ix1 1)) := by
  frame_out
  simp only [read_unread_whole]
  have e0 : ∀ h, View.ld (View.read (Elt Ideal) (View.whole main_v0) xt) (Rect.unit ![0] ![1] inb_S2_S1_0)
      (Shape.Idx.first h) = xt (ValueIdx.ix1 0) := fun h => congrArg xt (funext fun a => by fin_cases a; rfl)
  have e1 : ∀ h, View.ld (View.read (Elt Ideal) (View.whole main_v0) xt) (Rect.unit ![1] ![1] inb_S2_S1_1)
      (Shape.Idx.first h) = xt (ValueIdx.ix1 1) := fun h => congrArg xt (funext fun a => by fin_cases a; rfl)
  rw [e0, e1]

/-- The word of the prefetched table at position `k`. -/
abbrev word0 (m : (ℓ : Loc nD τ sig) → Buf (Elt Ideal) ℓ) (k : Fin 2) : BitVec 32 := tbl m 0 (ValueIdx.ix1 k)

/-- The accumulator after the first grid point. -/
theorem acc_first (t : Fin (cfgM m hO).N) (h0 : t.val % 16 = 0) :
    (outsAt0 m hO c t.val t.isLt).2 = k0_pay2 (iblk m hO c 0 t) (iblk m hO c 1 t) (k0_pay1 (F := Ideal)) := by
  have h1 : ¬t.val % 16 = 15 := by omega
  refine (congrArg Prod.snd (outsAt0_A m hO c t h0 h1)).trans ?_
  dsimp only
  exact sout_A ..

/-- The accumulator after a later grid point, over what the point before left. -/
theorem acc_next (t : Fin (cfgM m hO).N) (h0 : ¬t.val % 16 = 0) :
    (outsAt0 m hO c t.val t.isLt).2 = k0_pay2 (iblk m hO c 0 t) (iblk m hO c 1 t)
      (outsAt0 m hO c (t.val - 1) (Nat.lt_of_le_of_lt (Nat.sub_le _ _) t.isLt)).2 := by
  by_cases h1 : t.val % 16 = 15
  · refine (congrArg Prod.snd (outsAt0_C m hO c t h0 h1)).trans ?_
    dsimp only
    exact sout_C ..
  · refine (congrArg Prod.snd (outsAt0_B m hO c t h0 h1)).trans ?_
    dsimp only
    exact sout_B ..

/-- What the last grid point writes. -/
theorem out_last (t : Fin (cfgM m hO).N) (h1 : t.val % 16 = 15) :
    (outsAt0 m hO c t.val t.isLt).1
      = rows (outsAt0 m hO c t.val t.isLt).2 (iblk m hO c 2 t) (word0 m 0) (word0 m 1) := by
  have h0 : ¬t.val % 16 = 0 := by omega
  rw [acc_next m hO c t h0]
  refine (congrArg Prod.fst (outsAt0_C m hO c t h0 h1)).trans ?_
  dsimp only
  exact out_C ..

/-- The result array is what the last grid point writes. -/
theorem final :
    (dats m hO 0 c).arrAt 3 (cfgM m hO).N
      = rows (outsAt0 m hO c t0_15.val t0_15.isLt).2 (iblk m hO c 2 t0_15) (word0 m 0) (word0 m 1) := by
  have hw : ((cfgM m hO).win 3).WholeAt t0_15 := by
    refine ⟨(flush0_3 _ t0_15).mpr rfl, fun t ht => ?_, fun a => ?_⟩
    · have h := (flush0_3 _ t).mp ht
      have ht : t.val < 16 := lt_of_lt_of_eq t.isLt N_0
      refine Fin.ext ?_
      show t.val = 15
      omega
    · fin_cases a <;> exact ⟨rfl, rfl⟩
  refine (dats m hO 0 c).arrAt_eq_of_after_last 3 t0_15 hw _ fun j => ?_
  rw [after0_3, out_last m hO c t0_15 (by rfl)]
  rfl

/-! ## The blocks, at coordinates -/

/-- The block index of window 0 at point `t`: `t` along the first axis. -/
theorem index0 : ∀ t : Fin grid0.N, cc0_transform_0 (grid0.coords t) 0 = t.val ∧ cc0_transform_0 (grid0.coords t) 1 = 0
    ∧ cc0_transform_0 (grid0.coords t) 2 = 0 := by decide +kernel

/-- The block index of window 1 at point `t`: `t` along the first axis. -/
theorem index1 : ∀ t : Fin grid0.N, cc0_transform_1 (grid0.coords t) 0 = t.val ∧ cc0_transform_1 (grid0.coords t) 1 = 0 := by
  decide +kernel

/-- The block index of window 2 is zero at every point. -/
theorem index2 : ∀ t : Fin grid0.N, cc0_transform_2 (grid0.coords t) 0 = 0 ∧ cc0_transform_2 (grid0.coords t) 1 = 0 := by
  decide +kernel

/-- Row `b`, lane `g` of grid point `t`'s block, as a row of the arguments. -/
def rowAt (t : Fin 16) (b : Fin 256) (g : Fin 128) : Fin 524288 := ⟨(256 * t.val + b.val) * 128 + g.val, by omega⟩

/-- A grid point as a number below 16. -/
abbrev pt (t : Fin (cfgM m hO).N) : Fin 16 := ⟨t.val, lt_of_lt_of_eq t.isLt N_0⟩

/-- Where an element of window 0's block sits in its array. -/
theorem emb0 (t : Fin (cfgM m hO).N) (b : Fin 256) (g l : Fin 128) (hb : 256 * t.val + b.val < 4096) :
    (((cfgM m hO).win 0).blk t).view.emb (ValueIdx.ix3 b g l)
      = (ValueIdx.ix3 (⟨256 * t.val + b.val, hb⟩ : Fin 4096) g l : S4096x128x128.Idx) := by
  funext a
  refine Fin.ext ?_
  fin_cases a
  · show cc0_transform_0 (grid0.coords t) 0 * 256 + 1 * b.val = 256 * t.val + b.val
    rw [(index0 t).1]; omega
  · show cc0_transform_0 (grid0.coords t) 1 * 128 + 1 * g.val = g.val
    rw [(index0 t).2.1]; omega
  · show cc0_transform_0 (grid0.coords t) 2 * 128 + 1 * l.val = l.val
    rw [(index0 t).2.2]; omega

/-- Where an element of window 1's block sits in its array. -/
theorem emb1 (t : Fin (cfgM m hO).N) (b : Fin 256) (g : Fin 128) (hb : 256 * t.val + b.val < 4096) :
    (((cfgM m hO).win 1).blk t).view.emb (ValueIdx.ix2 b g)
      = (ValueIdx.ix2 (⟨256 * t.val + b.val, hb⟩ : Fin 4096) g : S4096x128.Idx) := by
  funext a
  refine Fin.ext ?_
  fin_cases a
  · show cc0_transform_1 (grid0.coords t) 0 * 256 + 1 * b.val = 256 * t.val + b.val
    rw [(index1 t).1]; omega
  · show cc0_transform_1 (grid0.coords t) 1 * 128 + 1 * g.val = g.val
    rw [(index1 t).2]; omega

/-- Where an element of window 2's block sits in its array. -/
theorem emb2 (t : Fin (cfgM m hO).N) (b : Fin 8) (l : Fin 128) :
    (((cfgM m hO).win 2).blk t).view.emb (ValueIdx.ix2 b l) = (ValueIdx.ix2 b l : S8x128.Idx) := by
  funext a
  refine Fin.ext ?_
  fin_cases a
  · show cc0_transform_2 (grid0.coords t) 0 * 8 + 1 * b.val = b.val
    rw [(index2 t).1]; omega
  · show cc0_transform_2 (grid0.coords t) 1 * 128 + 1 * l.val = l.val
    rw [(index2 t).2]; omega

/-- The logits in blocks, read at an index: the reshape of the argument. -/
theorem entry1 (p : Fin 4096) (g l : Fin 128) : V m c main_v1 (ValueIdx.ix3 p g l) =
    m (c.tc.loc main_arg0) (ValueIdx.ix2 (⟨p.val * 128 + g.val, by omega⟩ : Fin 524288) l) := by
  entry_read
  refine shapeCast_apply _ _ _ _ ?_
  exact (Shape.rowMajor_val_two (d := ![524288, 128]) (ValueIdx.ix2 (⟨p.val * 128 + g.val, by omega⟩ : Fin 524288) l)).trans
    (Shape.rowMajor_val_three (d := ![4096, 128, 128]) (ValueIdx.ix3 p g l)).symm

/-- The labels in blocks, read at an index: the reshape of the argument. -/
theorem entry2 (p : Fin 4096) (g : Fin 128) : V m c main_v2 (ValueIdx.ix2 p g) =
    m (c.tc.loc main_arg1) (ValueIdx.ix1 (⟨p.val * 128 + g.val, by omega⟩ : Fin 524288)) := by
  entry_read
  refine shapeCast_apply _ _ _ _ ?_
  exact (Shape.rowMajor_val_one (d := ![524288]) (ValueIdx.ix1 (⟨p.val * 128 + g.val, by omega⟩ : Fin 524288))).trans
    (Shape.rowMajor_val_two (d := ![4096, 128]) (ValueIdx.ix2 p g)).symm

/-- The first eight rows, read at an index: the slice of the argument. -/
theorem entry3 (b : Fin 8) (l : Fin 128) : V m c main_v3 (ValueIdx.ix2 b l) =
    m (c.tc.loc main_arg0) (ValueIdx.ix2 (⟨b.val, by omega⟩ : Fin 524288) l) := by
  entry_read
  exact congrArg (m (c.tc.loc main_arg0)) (funext fun a => by fin_cases a <;> exact Fin.ext (Nat.zero_add _))

/-- The block of logits at point `t`. -/
theorem blk0 (t : Fin (cfgM m hO).N) (b : Fin 256) (g l : Fin 128) : iblk m hO c 0 t (ValueIdx.ix3 b g l) =
    m (c.tc.loc main_arg0) (ValueIdx.ix2 (rowAt (pt m hO t) b g) l) := by
  have ht := lt_of_lt_of_eq t.isLt N_0
  have hb : 256 * t.val + b.val < 4096 := by omega
  exact (congrArg (V m c main_v1) (emb0 m hO t b g l hb)).trans (entry1 m c _ g l)

/-- The block of labels at point `t`. -/
theorem blk1 (t : Fin (cfgM m hO).N) (b : Fin 256) (g : Fin 128) : iblk m hO c 1 t (ValueIdx.ix2 b g) =
    m (c.tc.loc main_arg1) (ValueIdx.ix1 (rowAt (pt m hO t) b g)) := by
  have ht := lt_of_lt_of_eq t.isLt N_0
  have hb : 256 * t.val + b.val < 4096 := by omega
  exact (congrArg (V m c main_v2) (emb1 m hO t b g hb)).trans (entry2 m c _ g)

/-- The block of the first eight rows of logits, the same at every point. -/
theorem blk2 (t : Fin (cfgM m hO).N) (b : Fin 8) (l : Fin 128) : iblk m hO c 2 t (ValueIdx.ix2 b l) =
    m (c.tc.loc main_arg0) (ValueIdx.ix2 (⟨b.val, by omega⟩ : Fin 524288) l) :=
  (congrArg (V m c main_v3) (emb2 m hO t b l)).trans (entry3 m c b l)

/-- The prefetched words are the first two labels. -/
theorem word_eq (k : Fin 2) : word0 m k = m ((0 : Dev nD).tc.loc main_arg1) (ValueIdx.ix1 (⟨k.val, by omega⟩ : Fin 524288)) := by
  show V m 0 main_v0 (ValueIdx.ix1 k) = _
  entry_read
  exact congrArg (m ((0 : Dev nD).tc.loc main_arg1)) (funext fun a => by fin_cases a; exact Fin.ext (Nat.zero_add _))

end Cert.Proof.Ker
end
-- ==== Proof.KernelPay.lean ====
/-
  The kernel body's operations at an index, over the extended reals.
-/
module

public import proofs.«01_k».proof.Proof.Gen.KernelIdeal.Skeleton
public import proofs.«01_k».proof.Proof.Top
public import Idealize.ShloMosaic.PureOps.Ideal
public import Idealize.ShloMosaic.Lib.Pointwise

@[expose] public section
set_option maxRecDepth 16384
noncomputable section
namespace Cert.Proof.Ker
open Cert.KernelIdeal Cert.KernelIdeal.Gen Idealize.ShloMosaic

/-- The word 0x49000000 stands for 524288. -/
theorem ofBits_rows : Ideal.ofBits .f32 1224736768#32 = ((524288 : ℝ) : EReal) := by
  simp [Ideal.ofBits, Ideal.ieee, -EReal.coe_mul]; norm_num

/-- A choice on a comparison of words for equality. -/
theorem select_eq {α : Type} (x y : BitVec 32) (a b : α) :
    Scalar.select (IntOp.cmpi CmpIPredicate.eq x y) a b = if x = y then a else b := by
  unfold Scalar.select IntOp.cmpi
  by_cases h : x = y
  · simp [h]
  · simp [h, beq_eq_false_iff_ne.mpr h]

/-- A comparison for equality, widened and converted, is the number 1 or 0. -/
theorem sitofp_eq (x y : BitVec 32) :
    (FloatOps.sitofp FTy.f32 (BitVec.setWidth 32 (IntOp.cmpi CmpIPredicate.eq x y)) : Ideal .f32) = if x = y then (1 : EReal) else 0 := by
  unfold IntOp.cmpi
  show (((BitVec.setWidth 32 (BitVec.ofBool (x == y))).toInt : ℝ) : EReal) = _
  by_cases h : x = y
  · simp [h]
  · simp [h, beq_eq_false_iff_ne.mpr h]

/-- One grid point adds to the accumulator, at each place of its block, 1 where the label is the first position of the
    greatest logit and 0 elsewhere. -/
theorem pay2_apply (v0 : Vec Ideal S256x128x128 .f32) (v12 : Vec Ideal S256x128 .i32) (v22 : Vec Ideal S256x128 .f32)
    (b : Fin 256) (g : Fin 128) :
    k0_pay2 (F := Ideal) v0 v12 v22 (ix2 b g) = (v22 (ix2 b g) : EReal)
      + if v12 (ix2 b g) = BitVec.ofNat 32 (top fun l : Fin 128 => (v0 (ix3 b g l) : EReal)).val then 1 else 0 := by
  pointwise [k0_pay2]
  rw [sitofp_eq]
  congr 1
  refine if_congr ?_ rfl rfl
  have h := fold_code fun l : Fin 128 => (v0 (ix3 b g l) : EReal)
  rw [show Finset.fold IntOp.maxsi (2147483648#32) _ Finset.univ = _ from h]
  exact code_add_eq _ _

/-- The accumulator starts at zero. -/
theorem pay1_apply (b : Fin 256) (g : Fin 128) : k0_pay1 (F := Ideal) (ix2 b g) = (0 : EReal) := by
  pointwise [k0_pay1]

/-- The row of true positives from the completed accumulator. -/
theorem pay5_apply (v30 : Vec Ideal S256x128 .f32) (w0 w1 : BitVec 32) (r : Fin 4) (l : Fin 128) :
    k0_pay5 (F := Ideal) v30 w0 w1 (ix2 r l) =
      (if BitVec.ofNat 32 l.val = w0 then ((524288 : ℝ) : EReal) - ∑ b : Fin 256, ∑ g : Fin 128, (v30 (ix2 b g) : EReal) else 0)
      + (if BitVec.ofNat 32 l.val = w1 then ∑ b : Fin 256, ∑ g : Fin 128, (v30 (ix2 b g) : EReal) else 0) := by
  pointwise [k0_pay5, k0_pay4]
  rw [select_eq, select_eq, ofBits_rows]

/-- The mask of the row of predictions: the first position of the greatest logit of row 1. -/
theorem pay6_apply (v : Vec Ideal S8x128 .f32) (r : Fin 4) (l : Fin 128) :
    k0_pay6 (F := Ideal) v (ix2 r l) = if l = top fun l : Fin 128 => (v (ix2 (1 : Fin 8) l) : EReal) then 1#1 else 0#1 := by
  pointwise [k0_pay6]
  simp only [select_eq, ofBits_start]
  have key : ∀ x : Fin 8 × Fin 128, BitVec.ofNat 32 x.1.val = 1#32 ↔ x.1 = 1 := by
    intro x; constructor
    · intro h
      have := congrArg BitVec.toNat h
      rw [BitVec.toNat_ofNat] at this
      have hx := x.1.isLt
      refine Fin.ext ?_
      show x.1.val = 1
      have e : (1#32 : BitVec 32).toNat = 1 := rfl
      omega
    · intro h; rw [h]; rfl
  have hm : Finset.fold max (⊥ : EReal) (fun x : Fin 8 × Fin 128 =>
      if BitVec.ofNat 32 x.1.val = 1#32 then (v (ix2 x.1 x.2) : EReal) else ⊥) Finset.univ
      = v (ix2 (1 : Fin 8) (top fun l : Fin 128 => (v (ix2 (1 : Fin 8) l) : EReal))) := by
    refine (fold_max_eq _ ((1 : Fin 8), top fun l : Fin 128 => (v (ix2 (1 : Fin 8) l) : EReal)) fun x => ?_).trans ?_
    · dsimp only
      rw [if_pos (show BitVec.ofNat 32 (1 : Fin 8).val = 1#32 from rfl)]
      split
      · rename_i h
        rw [(key x).mp h]
        exact le_top_apply (fun l : Fin 128 => (v (ix2 (1 : Fin 8) l) : EReal)) x.2
      · exact bot_le
    · exact if_pos rfl
  generalize hM : Finset.fold (α := Fin 8 × Fin 128) (β := EReal) max _ _ Finset.univ = M
  have hM' : M = v (ix2 (1 : Fin 8) (top fun l : Fin 128 => (v (ix2 (1 : Fin 8) l) : EReal))) := hM.symm.trans hm
  generalize ht : (top fun l : Fin 128 => (v (ix2 (1 : Fin 8) l) : EReal)) = t at hM'
  have sel : ∀ x : Fin 8 × Fin 128, Scalar.select (IntOp.andi (IntOp.cmpi CmpIPredicate.eq (BitVec.ofNat 32 x.1.val) 1#32)
      (BitVec.ofBool (decide (v (ix2 x.1 x.2) = M)))) (BitVec.ofNat 32 x.2.val) 128#32
      = if x.1 = 1 ∧ v (ix2 x.1 x.2) = M then BitVec.ofNat 32 x.2.val else 128#32 := by
    intro x
    unfold Scalar.select IntOp.andi IntOp.cmpi
    by_cases h1 : x.1 = 1
    · by_cases h2 : v (ix2 x.1 x.2) = M
      · rw [if_pos (show x.1 = 1 ∧ v (ix2 x.1 x.2) = M from ⟨h1, h2⟩)]
        simp [h2, (key x).mpr h1]
      · rw [if_neg (show ¬(x.1 = 1 ∧ v (ix2 x.1 x.2) = M) from fun h => h2 h.2)]
        simp [h2]
    · have h1' : ¬BitVec.ofNat 32 x.1.val = 1#32 := fun h => h1 ((key x).mp h)
      simp [h1, beq_eq_false_iff_ne.mpr h1']
  have hf : Finset.fold IntOp.minsi (2147483647#32) (fun x : Fin 8 × Fin 128 =>
      Scalar.select (IntOp.andi (IntOp.cmpi CmpIPredicate.eq (BitVec.ofNat 32 x.1.val) 1#32)
      (BitVec.ofBool (decide (v (ix2 x.1 x.2) = M)))) (BitVec.ofNat 32 x.2.val) 128#32) Finset.univ = BitVec.ofNat 32 t.val := by
    simp only [sel]
    have hp : (1 : Fin 8) = 1 ∧ v (ix2 (1 : Fin 8) t) = M := ⟨rfl, hM'.symm⟩
    refine (fold_minsi_eq _ ((1 : Fin 8), t) fun x => ?_).trans (if_pos hp)
    dsimp only
    rw [if_pos hp, toInt_lane]
    split
    · rename_i h
      rw [toInt_lane]
      have := top_le_of_eq (fun l : Fin 128 => (v (ix2 (1 : Fin 8) l) : EReal)) x.2
        (by rw [ht]; exact ((congrArg (fun q => v (ix2 q x.2)) h.1.symm).trans h.2).trans hM')
      rw [ht] at this
      exact_mod_cast this
    · have e : (128#32).toInt = 128 := by decide
      have := t.isLt
      omega
  refine (congrArg (IntOp.cmpi CmpIPredicate.eq (BitVec.ofNat 32 l.val)) hf).trans ?_
  unfold IntOp.cmpi
  by_cases h : l = t
  · simp [h]
  · have : ¬BitVec.ofNat 32 l.val = BitVec.ofNat 32 t.val := by
      intro g
      have g' := congrArg BitVec.toInt g
      rw [toInt_lane, toInt_lane] at g'
      exact h (Fin.ext (by exact_mod_cast g'))
    simp [h, beq_eq_false_iff_ne.mpr this]

/-- The four rows of the result, one by one. -/
theorem pay3_apply (v59 : BitVec 32) (v60 v61 : IVec S4x128 32) (v62 v72 : FVec Ideal S4x128 .f32) (v74 : IVec S4x128 1) (r : Fin 4) (l : Fin 128) :
   k0_pay3 (F := Ideal) v59 v60 v61 v62 v72 v74 (ix2 r l) =
    if v61 (ix2 r l) = 0#32 then (v72 (ix2 r l) : EReal) else if v61 (ix2 r l) = 1#32 then
      (Scalar.select (v74 (ix2 r l)) ((524288 : ℝ) : EReal) (v62 (ix2 r l))) else if v61 (ix2 r l) = 2#32 then
      (if v60 (ix2 r l) = v59 then ((524288 : ℝ) : EReal) else v62 (ix2 r l)) else ((524288 : ℝ) : EReal) := by
  pointwise [k0_pay3]
  simp only [select_eq, ofBits_rows]

end Cert.Proof.Ker
end
-- ==== Proof.KernelValue.lean ====
/-
  The kernel's result: its accumulator holds the matches, and its four rows are those of the specification.
-/
module

public import proofs.«01_k».proof.Proof.KernelOut
public import proofs.«01_k».proof.Proof.KernelPay
public import proofs.«01_k».proof.Proof.Spec
import Idealize.ShloMosaic.Lib.Claim

@[expose] public section
set_option maxRecDepth 16384
noncomputable section
namespace Cert.Proof.Ker
open Cert.KernelIdeal Cert.KernelIdeal.Gen Idealize.ShloMosaic Idealize.ShloMosaic.TcCoe Idealize.SL.Sem

/-- A sum over the rows is a sum over the places of a block and over the grid points. -/
theorem sum_rows (f : Fin 524288 → EReal) :
    ∑ b : Fin 256, ∑ g : Fin 128, ∑ t : Fin 16, f (rowAt t b g) = ∑ n, f n := by
  have hb : Function.Bijective fun p : Fin 256 × Fin 128 × Fin 16 => rowAt p.2.2 p.1 p.2.1 := by
    refine (Fintype.bijective_iff_injective_and_card _).mpr ⟨?_, by simp⟩
    rintro ⟨b, g, t⟩ ⟨b', g', t'⟩ h
    have h := congrArg Fin.val h
    simp only [rowAt] at h
    have e1 : b = b' := Fin.ext (by omega)
    have e2 : g = g' := Fin.ext (by omega)
    have e3 : t = t' := Fin.ext (by omega)
    rw [e1, e2, e3]
  rw [← Function.Bijective.sum_comp hb f, Fintype.sum_prod_type]
  refine Finset.sum_congr rfl fun b _ => ?_
  rw [Fintype.sum_prod_type]

/-- One grid point's update of the accumulator at a place, from the label and the logits there. -/
theorem pay2_of (v0 : Vec Ideal S256x128x128 .f32) (v12 : Vec Ideal S256x128 .i32) (v22 : Vec Ideal S256x128 .f32)
    (b : Fin 256) (g : Fin 128) (w : BitVec 32) (f : Fin 128 → EReal) (hw : v12 (ix2 b g) = w) (hf : ∀ l, v0 (ix3 b g l) = f l) :
    k0_pay2 (F := Ideal) v0 v12 v22 (ix2 b g) = (v22 (ix2 b g) : EReal) + if w = BitVec.ofNat 32 (top f).val then 1 else 0 := by
  rw [pay2_apply, hw, funext hf]

/-- The kernel's four rows are the specification's, once its accumulator adds up to the number of matches. -/
theorem rows_apply (X : Fin 524288 → Fin 128 → EReal) (Y : Fin 524288 → BitVec 32) (acc : Vec Ideal S256x128 .f32)
    (x2 : Vec Ideal S8x128 .f32) (w0 w1 : BitVec 32)
    (hs : ∑ b : Fin 256, ∑ g : Fin 128, (acc (ix2 b g) : EReal) = ((hits X Y : ℝ) : EReal))
    (hx : ∀ l : Fin 128, (x2 (ix2 (1 : Fin 8) l) : EReal) = X 1 l) (h0 : w0 = Y 0) (h1 : w1 = Y 1) (r : Fin 4) (l : Fin 128) :
    (rows acc x2 w0 w1 (ix2 r l) : EReal) = spec X Y r l := by
  have e0 : iota Kind.tc S4x128 32 [0] iota_S4x128_d0_w32 (ix2 r l) = BitVec.ofNat 32 r.val := by pointwise []
  have e1 : iota Kind.tc S4x128 32 [1] iota_S4x128_d1_w32 (ix2 r l) = BitVec.ofNat 32 l.val := by pointwise []
  have e4 : (k0_pay4 (F := Ideal) (ix2 r l) : EReal) = 0 := by pointwise [k0_pay4]
  unfold rows
  rw [pay3_apply, pay5_apply, hs, pay6_apply, e0, e1, e4, funext hx, h0, h1]
  unfold spec
  generalize ((524288 : ℝ) : EReal) = N
  generalize ((hits X Y : ℝ) : EReal) = H
  generalize Y 0 = y0
  generalize Y 1 = y1
  generalize top (X 1) = p
  fin_cases r
  · simp
  · by_cases h : l = p <;> simp [h, Scalar.select]
  · simp
  · simp

variable (m : (ℓ : Loc nD τ sig) → Buf (Elt Ideal) ℓ) (hO : Ok m) (c : Dev nD)

/-- The logits as a function of row and lane. -/
abbrev logits (n : Fin 524288) (l : Fin 128) : EReal := m (c.tc.loc main_arg0) (ValueIdx.ix2 n l)

/-- The labels as a function of the row. -/
abbrev labels (n : Fin 524288) : BitVec 32 := m (c.tc.loc main_arg1) (ValueIdx.ix1 n)

/-- What one grid point adds at place (b, g) of the accumulator. -/
def term (t : Fin (cfgM m hO).N) (i : S256x128.Idx) : EReal :=
  if labels m c (rowAt (pt m hO t) (i 0) (i 1)) = guess (logits m c) (rowAt (pt m hO t) (i 0) (i 1)) then 1 else 0

/-- One grid point's update of the accumulator, read off the arguments. -/
theorem pay2_at (t : Fin (cfgM m hO).N) (acc : Vec Ideal S256x128 .f32) (i : S256x128.Idx) :
    k0_pay2 (F := Ideal) (iblk m hO c 0 t) (iblk m hO c 1 t) acc i = (acc i : EReal) + term m hO c t i := by
  obtain ⟨b, g, rfl⟩ : ∃ (b : Fin 256) (g : Fin 128), i = ix2 b g :=
    ⟨i 0, i 1, funext fun a => by fin_cases a <;> rfl⟩
  exact pay2_of _ _ acc b g _ _ (blk1 m hO c t b g) (fun l => blk0 m hO c t b g l)

/-- The completed accumulator: at each place, the number of grid points with a match there. -/
theorem acc_last (i : S256x128.Idx) :
    ((outsAt0 m hO c t0_15.val t0_15.isLt).2 i : EReal) = ∑ t : Fin (cfgM m hO).N, term m hO c t i := by
  refine (Pipeline.eq_sum_fin_of_reset_step_apply_last (M := EReal) (fun n h => (outsAt0 m hO c n h).2) 16 (fun _ => 0)
    (term m hO c) (fun t h j => ?_) (fun t h j => ?_) (le_of_eq N_0) t0_15 rfl i).trans (zero_add _)
  · rw [acc_first m hO c t h]
    refine (pay2_at m hO c t _ j).trans ?_
    obtain ⟨b, g, rfl⟩ : ∃ (b : Fin 256) (g : Fin 128), j = ix2 b g :=
      ⟨j 0, j 1, funext fun a => by fin_cases a <;> rfl⟩
    rw [pay1_apply]
  · rw [acc_next m hO c t h]
    exact pay2_at m hO c t _ j

/-- The accumulator's entries add up to the number of matching rows. -/
theorem acc_sum : ∑ b : Fin 256, ∑ g : Fin 128, ((outsAt0 m hO c t0_15.val t0_15.isLt).2 (ix2 b g) : EReal)
    = ((hits (logits m c) (labels m c) : ℝ) : EReal) := by
  have h : ∀ (b : Fin 256) (g : Fin 128), ((outsAt0 m hO c t0_15.val t0_15.isLt).2 (ix2 b g) : EReal)
      = ∑ t : Fin 16, (fun n => if labels m c n = guess (logits m c) n then (1 : EReal) else 0) (rowAt t b g) := by
    intro b g
    rw [acc_last]
    exact Fintype.sum_equiv (finCongr N_0) _ _ fun t => rfl
  simp only [h]
  rw [sum_rows fun n => if labels m c n = guess (logits m c) n then (1 : EReal) else 0, Finset.sum_boole]
  rfl

/-- The kernel's result is the specification's. -/
theorem value (r : Fin 4) (l : Fin 128) : ((dats m hO 0 c).arrAt 3 (cfgM m hO).N (ix2 r l) : EReal)
    = spec (logits m c) (labels m c) r l := by
  have hc : c = 0 := Subsingleton.elim _ _
  subst hc
  rw [final m hO 0]
  exact rows_apply _ _ _ _ _ _ (acc_sum m hO 0) (fun l => blk2 m hO 0 t0_15 1 l) (word_eq m 0) (word_eq m 1) r l

/-- The kernel's run: it ends with the specification's rows in the result and leaves its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun j : S4x128.Idx => spec (logits m c) (labels m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from (Cert.KernelIdeal.Gen.run_main m ρ trivial)
  · refine funext fun (j : S4x128.Idx) => ?_
    obtain ⟨r, l, rfl⟩ : ∃ (r : Fin 4) (l : Fin 128), j = ix2 r l :=
      ⟨j 0, j 1, funext fun a => by fin_cases a <;> rfl⟩
    exact value m trivial _ r l
  · exact (hc.2 main_arg0 (by decide : main_arg0 ∈ Pipeline.restRefs sig spec0)).trans (V_main_arg0 m _)
  · exact (hc.2 main_arg1 (by decide : main_arg1 ∈ Pipeline.restRefs sig spec0)).trans (V_main_arg1 m _)

end Cert.Proof.Ker
end
-- ==== Proof.RefRun.lean ====
/-
  The reference program's run.  Its operations are cut into stages; each stage is read as a function of the
  buffers it starts from, and the result is the composition of these functions.
-/
module

public import proofs.«01_k».proof.Defs
public import proofs.«01_k».proof.Proof.Gen.ReferenceIdeal
public import Idealize.ShloMosaic.Adequacy
public import Idealize.ShloMosaic.Init
public import Idealize.ShloMosaic.Lib.StableHlo.Run
public import Idealize.ShloMosaic.Lib.StableHlo.RunRead
import Idealize.ShloMosaic.Lib.Claim
import Idealize.ShloMosaic.Lib.Pipeline.Frame

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The functions that the stages compute -/

/-- One word at every position. -/
def words (w : BitVec 32) : IVec S524288 32 := broadcastInDim S524288 ![] bcast_S_S524288 (constantI S_ 32 w)

/-- The positions of the rows' greatest entries. -/
def argmaxOf (x : FVec F S524288x128 .f32) : IVec S524288 32 := fun j =>
  (Host.argReduce reducer_argmax_f32_i32 x (iotaInDim S524288x128 32 1) (constant S_ .f32 0xFF800000#32) (constantI S_ 32 0#32)
    reducesTo_S524288x128_S524288_d1 h_S_ j).2

/-- 1 where label and argmax agree as floats, else 0. -/
def matchOf (x : FVec F S524288x128 .f32) (y : IVec S524288 32) : IVec S524288 32 :=
  muli (extui 32 (cmpf .oeq (sitofp .f32 y : FVec F S524288 .f32) (sitofp .f32 (argmaxOf x))) natLt_1_32) (words 1#32)

/-- The column of positions that a take reads: negative positions are counted from the end. -/
def wrapped (i : IVec S524288 32) : IVec S524288x1 32 :=
  broadcastInDim S524288x1 ![0] bcast_S524288_S524288x1_0 (select (cmpi .slt i (words 0#32)) (addi i (words 524288#32)) i)

/-- 1 where a position of the column lies inside the vector. -/
def inside (k : IVec S524288x1 32) : IVec S524288 1 :=
  Host.reduce IntOp.andi
    (andi (cmpi .sge k (broadcastInDim S524288x1 ![] bcast_S_S524288x1 (constantI S_ 32 0#32)))
      (cmpi .sle k (broadcastInDim S524288x1 ![0, 1] bcast_S1x1_S524288x1_0_1 (broadcastInDim S1x1 ![1] bcast_S1_S1x1_1 (constantI S1 32 524287#32)))))
    (constantI S_ 1 1#1) reducesTo_S524288x1_S524288_d1 h_S_

/-- The entries of `x` at the positions `i`, NaN outside. -/
def takeOf (x : FVec F S524288 .f32) (i : IVec S524288 32) : FVec F S524288 .f32 :=
  select (inside (wrapped i)) (Host.gather gather_S524288_S524288x1_S524288_n_0_n_n_0_1_1 x (wrapped i))
    (broadcastInDim S524288 ![] bcast_S_S524288 (constant S_ .f32 0x7FC00000#32))

/-- The words of a vector with its negative words raised to 0. -/
def clipped (x : FVec F S524288 .f32) : IVec S524288 32 := maxsi (words 0#32) (fptosi 32 x)

/-- The bin that each entry of `x` is counted in. -/
def bins (x : FVec F S524288 .f32) : IVec S524288x1 32 :=
  broadcastInDim S524288x1 ![0] bcast_S524288_S524288x1_0
    (select (cmpi .slt (clipped x) (words 0#32)) (addi (clipped x) (words 128#32)) (clipped x))

/-- The number of entries in each of the 128 bins. -/
def histOf (x : FVec F S524288 .f32) : FVec F S128 .f32 :=
  sitofp .f32 (Host.scatter scatter_S128_S524288x1_S524288_n_0_0_1 IntOp.addi
    (broadcastInDim S128 ![] bcast_S_S128 (constantI S_ 32 0#32)) (bins x) (words 1#32))

/-- Every lane holds the number of rows. -/
def totalOf (o : IVec S524288 32) : FVec F S128 .f32 :=
  addf (broadcastInDim S128 ![] bcast_S_S128 (constant S_ .f32 0x00000000#32))
    (broadcastInDim S128 ![] bcast_S_S128 (sitofp .f32 (Host.reduce IntOp.addi o (constantI S_ 32 0#32) reducesTo_S524288_S_d0 h_S_)))

/-- Four rows one above the other. -/
def stackRows (a b c d : FVec F S1x128 .f32) : FVec F S4x128 .f32 :=
  concatenate S4x128 0 [⟨S1x128, a⟩, ⟨S1x128, b⟩, ⟨S1x128, c⟩, ⟨S1x128, d⟩] concatenates_S1x128_S1x128_S1x128_S1x128_S4x128_d0

/-- A vector as one row. -/
def row (v : FVec F S128 .f32) : FVec F S1x128 .f32 := broadcastInDim S1x128 ![1] bcast_S128_S1x128_1 v

/-- The reference's result as a function of its arguments. -/
def value (x : FVec F S524288x128 .f32) (y : IVec S524288 32) : FVec F S4x128 .f32 :=
  stackRows (row (histOf (takeOf (sitofp .f32 y) (matchOf x y)))) (row (histOf (takeOf (sitofp .f32 (argmaxOf x)) (words 1#32))))
    (row (histOf (takeOf (sitofp .f32 y) (words 1#32)))) (row (totalOf (words 1#32)))

/-! ## The stages -/

/-- The labels and the argmax as floats, and where they agree. -/
def opsMatch : List (HloOp τ sig (Elt F)) :=
  [ nullary main_c (constantI S_ 32 1#32),
    unary main_c main_v0 (broadcastInDim S524288 ![] bcast_S_S524288 : (⟨S_, .i32⟩ : BufTy).Contents (Elt F) → (⟨S524288, .i32⟩ : BufTy).Contents (Elt F)),
    unary main_arg1 main_v1 (sitofp .f32 : (⟨S524288, .i32⟩ : BufTy).Contents (Elt F) → (⟨S524288, .f32⟩ : BufTy).Contents (Elt F)),
    TRef.nullary main_call0.v0 (iotaInDim S524288x128 32 1),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S524288x128_S524288_d1 h_S_ j).1),
    TRef.quaternary (.of main_arg0) main_call0.v0 main_call0.cst main_call0.c main_call0.v1_1 (fun x y u v j => (Host.argReduce reducer_argmax_f32_i32 x y u v reducesTo_S524288x128_S524288_d1 h_S_ j).2),
    unary main_v2 main_v3 (sitofp .f32 : (⟨S524288, .i32⟩ : BufTy).Contents (Elt F) → (⟨S524288, .f32⟩ : BufTy).Contents (Elt F)),
    binary main_v1 main_v3 main_v4 (cmpf .oeq : (⟨S524288, .f32⟩ : BufTy).Contents (Elt F) → (⟨S524288, .f32⟩ : BufTy).Contents (Elt F) → (⟨S524288, .i1⟩ : BufTy).Contents (Elt F)),
    unary main_v4 main_v5 ((extui 32 · natLt_1_32) : (⟨S524288, .i1⟩ : BufTy).Contents (Elt F) → (⟨S524288, .i32⟩ : BufTy).Contents (Elt F)),
    binary main_v5 main_v0 main_v6 (muli : (⟨S524288, .i32⟩ : BufTy).Contents (Elt F) → (⟨S524288, .i32⟩ : BufTy).Contents (Elt F) → (⟨S524288, .i32⟩ : BufTy).Contents (Elt F)) ]

/-- One take. -/
def opsTake (arg0 : TRef sig ⟨S524288, .f32⟩) (arg1 : TRef sig ⟨S524288, .i32⟩) (φ : fn_take.Bufs) : List (HloOp τ sig (Elt F)) :=
  [ TRef.nullary φ.c (constantI S_ 32 0#32),
    TRef.unary φ.c φ.v0 (broadcastInDim S524288 ![] bcast_S_S524288),
    TRef.binary arg1 φ.v0 φ.v1 (cmpi .slt),
    TRef.nullary φ.c_0 (constantI S_ 32 524288#32),
    TRef.unary φ.c_0 φ.v2 (broadcastInDim S524288 ![] bcast_S_S524288),
    TRef.binary arg1 φ.v2 φ.v3 addi,
    TRef.ternary φ.v1 φ.v3 arg1 φ.call0.v0 select,
    TRef.unary φ.call0.v0 φ.v5 (broadcastInDim S524288x1 ![0] bcast_S524288_S524288x1_0),
    TRef.nullary φ.c_1 (constantI S1 32 524287#32),
    TRef.nullary φ.c_2 (constantI S_ 32 0#32),
    TRef.unary φ.c_2 φ.v6 (broadcastInDim S524288x1 ![] bcast_S_S524288x1),
    TRef.binary φ.v5 φ.v6 φ.v7 (cmpi .sge),
    TRef.unary φ.c_1 φ.v8 (broadcastInDim S1x1 ![1] bcast_S1_S1x1_1),
    TRef.unary φ.v8 φ.v9 (broadcastInDim S524288x1 ![0, 1] bcast_S1x1_S524288x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S524288x1_S524288_d1 h_S_),
    TRef.binary arg0 φ.v5 φ.v13 (fun x i => Host.gather gather_S524288_S524288x1_S524288_n_0_n_n_0_1_1 x i),
    TRef.nullary φ.cst (constant S_ .f32 0x7FC00000#32),
    TRef.unary φ.cst φ.v14 (broadcastInDim S524288 ![] bcast_S_S524288),
    TRef.ternary φ.v12 φ.v13 φ.v14 φ.v15 select ]

/-- The first count. -/
def opsHistA : List (HloOp τ sig (Elt F)) :=
  [ unary main_v7 main_v8 (fptosi 32 : (⟨S524288, .f32⟩ : BufTy).Contents (Elt F) → (⟨S524288, .i32⟩ : BufTy).Contents (Elt F)),
    nullary main_c_0 (constantI S_ 32 0#32),
    unary main_c_0 main_v9 (broadcastInDim S128 ![] bcast_S_S128 : (⟨S_, .i32⟩ : BufTy).Contents (Elt F) → (⟨S128, .i32⟩ : BufTy).Contents (Elt F)),
    nullary main_c_1 (constantI S_ 32 0#32),
    TRef.unary (.of main_c_1) main_call2.v0 id,
    TRef.unary main_call2.v0 main_call2.v1 (broadcastInDim S524288 ![] bcast_S_S524288),
    TRef.binary main_call2.v1 (.of main_v8) main_call2.v2 maxsi,
    nullary main_c_2 (constantI S_ 32 0#32),
    unary main_c_2 main_v11 (broadcastInDim S524288 ![] bcast_S_S524288 : (⟨S_, .i32⟩ : BufTy).Contents (Elt F) → (⟨S524288, .i32⟩ : BufTy).Contents (Elt F)),
    binary main_v10 main_v11 main_v12 (cmpi .slt : (⟨S524288, .i32⟩ : BufTy).Contents (Elt F) → (⟨S524288, .i32⟩ : BufTy).Contents (Elt F) → (⟨S524288, .i1⟩ : BufTy).Contents (Elt F)),
    nullary main_c_3 (constantI S_ 32 128#32),
    unary main_c_3 main_v13 (broadcastInDim S524288 ![] bcast_S_S524288 : (⟨S_, .i32⟩ : BufTy).Contents (Elt F) → (⟨S524288, .i32⟩ : BufTy).Contents (Elt F)),
    binary main_v10 main_v13 main_v14 (addi : (⟨S524288, .i32⟩ : BufTy).Contents (Elt F) → (⟨S524288, .i32⟩ : BufTy).Contents (Elt F) → (⟨S524288, .i32⟩ : BufTy).Contents (Elt F)),
    ternary main_v12 main_v14 main_v10 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v15 main_v16 (broadcastInDim S524288x1 ![0] bcast_S524288_S524288x1_0 : (⟨S524288, .i32⟩ : BufTy).Contents (Elt F) → (⟨S524288x1, .i32⟩ : BufTy).Contents (Elt F)),
    nullary main_c_4 (constantI S_ 32 1#32),
    unary main_c_4 main_v17 (broadcastInDim S524288 ![] bcast_S_S524288 : (⟨S_, .i32⟩ : BufTy).Contents (Elt F) → (⟨S524288, .i32⟩ : BufTy).Contents (Elt F)),
    ternary main_v9 main_v16 main_v17 main_v18 ((fun x i u => Host.scatter scatter_S128_S524288x1_S524288_n_0_0_1 IntOp.addi x i u) : (⟨S128, .i32⟩ : BufTy).Contents (Elt F) → (⟨S524288x1, .i32⟩ : BufTy).Contents (Elt F) → (⟨S524288, .i32⟩ : BufTy).Contents (Elt F) → (⟨S128, .i32⟩ : BufTy).Contents (Elt F)),
    unary main_v18 main_v19 (sitofp .f32 : (⟨S128, .i32⟩ : BufTy).Contents (Elt F) → (⟨S128, .f32⟩ : BufTy).Contents (Elt F)) ]

/-- The second count. -/
def opsHistB : List (HloOp τ sig (Elt F)) :=
  [ unary main_v20 main_v21 (fptosi 32 : (⟨S524288, .f32⟩ : BufTy).Contents (Elt F) → (⟨S524288, .i32⟩ : BufTy).Contents (Elt F)),
    nullary main_c_5 (constantI S_ 32 0#32),
    unary main_c_5 main_v22 (broadcastInDim S128 ![] bcast_S_S128 : (⟨S_, .i32⟩ : BufTy).Contents (Elt F) → (⟨S128, .i32⟩ : BufTy).Contents (Elt F)),
    nullary main_c_6 (constantI S_ 32 0#32),
    TRef.unary (.of main_c_6) main_call4.v0 id,
    TRef.unary main_call4.v0 main_call4.v1 (broadcastInDim S524288 ![] bcast_S_S524288),
    TRef.binary main_call4.v1 (.of main_v21) main_call4.v2 maxsi,
    nullary main_c_7 (constantI S_ 32 0#32),
    unary main_c_7 main_v24 (broadcastInDim S524288 ![] bcast_S_S524288 : (⟨S_, .i32⟩ : BufTy).Contents (Elt F) → (⟨S524288, .i32⟩ : BufTy).Contents (Elt F)),
    binary main_v23 main_v24 main_v25 (cmpi .slt : (⟨S524288, .i32⟩ : BufTy).Contents (Elt F) → (⟨S524288, .i32⟩ : BufTy).Contents (Elt F) → (⟨S524288, .i1⟩ : BufTy).Contents (Elt F)),
    nullary main_c_8 (constantI S_ 32 128#32),
    unary main_c_8 main_v26 (broadcastInDim S524288 ![] bcast_S_S524288 : (⟨S_, .i32⟩ : BufTy).Contents (Elt F) → (⟨S524288, .i32⟩ : BufTy).Contents (Elt F)),
    binary main_v23 main_v26 main_v27 (addi : (⟨S524288, .i32⟩ : BufTy).Contents (Elt F) → (⟨S524288, .i32⟩ : BufTy).Contents (Elt F) → (⟨S524288, .i32⟩ : BufTy).Contents (Elt F)),
    ternary main_v25 main_v27 main_v23 main_v28 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v28 main_v29 (broadcastInDim S524288x1 ![0] bcast_S524288_S524288x1_0 : (⟨S524288, .i32⟩ : BufTy).Contents (Elt F) → (⟨S524288x1, .i32⟩ : BufTy).Contents (Elt F)),
    nullary main_c_9 (constantI S_ 32 1#32),
    unary main_c_9 main_v30 (broadcastInDim S524288 ![] bcast_S_S524288 : (⟨S_, .i32⟩ : BufTy).Contents (Elt F) → (⟨S524288, .i32⟩ : BufTy).Contents (Elt F)),
    ternary main_v22 main_v29 main_v30 main_v31 ((fun x i u => Host.scatter scatter_S128_S524288x1_S524288_n_0_0_1 IntOp.addi x i u) : (⟨S128, .i32⟩ : BufTy).Contents (Elt F) → (⟨S524288x1, .i32⟩ : BufTy).Contents (Elt F) → (⟨S524288, .i32⟩ : BufTy).Contents (Elt F) → (⟨S128, .i32⟩ : BufTy).Contents (Elt F)),
    unary main_v31 main_v32 (sitofp .f32 : (⟨S128, .i32⟩ : BufTy).Contents (Elt F) → (⟨S128, .f32⟩ : BufTy).Contents (Elt F)) ]

/-- The third count. -/
def opsHistC : List (HloOp τ sig (Elt F)) :=
  [ unary main_v33 main_v34 (fptosi 32 : (⟨S524288, .f32⟩ : BufTy).Contents (Elt F) → (⟨S524288, .i32⟩ : BufTy).Contents (Elt F)),
    nullary main_c_10 (constantI S_ 32 0#32),
    unary main_c_10 main_v35 (broadcastInDim S128 ![] bcast_S_S128 : (⟨S_, .i32⟩ : BufTy).Contents (Elt F) → (⟨S128, .i32⟩ : BufTy).Contents (Elt F)),
    nullary main_c_11 (constantI S_ 32 0#32),
    TRef.unary (.of main_c_11) main_call6.v0 id,
    TRef.unary main_call6.v0 main_call6.v1 (broadcastInDim S524288 ![] bcast_S_S524288),
    TRef.binary main_call6.v1 (.of main_v34) main_call6.v2 maxsi,
    nullary main_c_12 (constantI S_ 32 0#32),
    unary main_c_12 main_v37 (broadcastInDim S524288 ![] bcast_S_S524288 : (⟨S_, .i32⟩ : BufTy).Contents (Elt F) → (⟨S524288, .i32⟩ : BufTy).Contents (Elt F)),
    binary main_v36 main_v37 main_v38 (cmpi .slt : (⟨S524288, .i32⟩ : BufTy).Contents (Elt F) → (⟨S524288, .i32⟩ : BufTy).Contents (Elt F) → (⟨S524288, .i1⟩ : BufTy).Contents (Elt F)),
    nullary main_c_13 (constantI S_ 32 128#32),
    unary main_c_13 main_v39 (broadcastInDim S524288 ![] bcast_S_S524288 : (⟨S_, .i32⟩ : BufTy).Contents (Elt F) → (⟨S524288, .i32⟩ : BufTy).Contents (Elt F)),
    binary main_v36 main_v39 main_v40 (addi : (⟨S524288, .i32⟩ : BufTy).Contents (Elt F) → (⟨S524288, .i32⟩ : BufTy).Contents (Elt F) → (⟨S524288, .i32⟩ : BufTy).Contents (Elt F)),
    ternary main_v38 main_v40 main_v36 main_v41 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v41 main_v42 (broadcastInDim S524288x1 ![0] bcast_S524288_S524288x1_0 : (⟨S524288, .i32⟩ : BufTy).Contents (Elt F) → (⟨S524288x1, .i32⟩ : BufTy).Contents (Elt F)),
    nullary main_c_14 (constantI S_ 32 1#32),
    unary main_c_14 main_v43 (broadcastInDim S524288 ![] bcast_S_S524288 : (⟨S_, .i32⟩ : BufTy).Contents (Elt F) → (⟨S524288, .i32⟩ : BufTy).Contents (Elt F)),
    ternary main_v35 main_v42 main_v43 main_v44 ((fun x i u => Host.scatter scatter_S128_S524288x1_S524288_n_0_0_1 IntOp.addi x i u) : (⟨S128, .i32⟩ : BufTy).Contents (Elt F) → (⟨S524288x1, .i32⟩ : BufTy).Contents (Elt F) → (⟨S524288, .i32⟩ : BufTy).Contents (Elt F) → (⟨S128, .i32⟩ : BufTy).Contents (Elt F)),
    unary main_v44 main_v45 (sitofp .f32 : (⟨S128, .i32⟩ : BufTy).Contents (Elt F) → (⟨S128, .f32⟩ : BufTy).Contents (Elt F)) ]

/-- The number of rows, and the result's four rows. -/
def opsStack : List (HloOp τ sig (Elt F)) :=
  [ nullary main_cst (constant S_ .f32 0x00000000#32),
    unary main_cst main_v46 (broadcastInDim S128 ![] bcast_S_S128 : (⟨S_, .f32⟩ : BufTy).Contents (Elt F) → (⟨S128, .f32⟩ : BufTy).Contents (Elt F)),
    nullary main_c_15 (constantI S_ 32 0#32),
    binary main_v0 main_c_15 main_v47 ((fun x v => Host.reduce IntOp.addi x v reducesTo_S524288_S_d0 h_S_) : (⟨S524288, .i32⟩ : BufTy).Contents (Elt F) → (⟨S_, .i32⟩ : BufTy).Contents (Elt F) → (⟨S_, .i32⟩ : BufTy).Contents (Elt F)),
    unary main_v47 main_v48 (sitofp .f32 : (⟨S_, .i32⟩ : BufTy).Contents (Elt F) → (⟨S_, .f32⟩ : BufTy).Contents (Elt F)),
    unary main_v48 main_v49 (broadcastInDim S128 ![] bcast_S_S128 : (⟨S_, .f32⟩ : BufTy).Contents (Elt F) → (⟨S128, .f32⟩ : BufTy).Contents (Elt F)),
    binary main_v46 main_v49 main_v50 (addf : (⟨S128, .f32⟩ : BufTy).Contents (Elt F) → (⟨S128, .f32⟩ : BufTy).Contents (Elt F) → (⟨S128, .f32⟩ : BufTy).Contents (Elt F)),
    unary main_v19 main_v51 (broadcastInDim S1x128 ![1] bcast_S128_S1x128_1 : (⟨S128, .f32⟩ : BufTy).Contents (Elt F) → (⟨S1x128, .f32⟩ : BufTy).Contents (Elt F)),
    unary main_v32 main_v52 (broadcastInDim S1x128 ![1] bcast_S128_S1x128_1 : (⟨S128, .f32⟩ : BufTy).Contents (Elt F) → (⟨S1x128, .f32⟩ : BufTy).Contents (Elt F)),
    unary main_v45 main_v53 (broadcastInDim S1x128 ![1] bcast_S128_S1x128_1 : (⟨S128, .f32⟩ : BufTy).Contents (Elt F) → (⟨S1x128, .f32⟩ : BufTy).Contents (Elt F)),
    unary main_v50 main_v54 (broadcastInDim S1x128 ![1] bcast_S128_S1x128_1 : (⟨S128, .f32⟩ : BufTy).Contents (Elt F) → (⟨S1x128, .f32⟩ : BufTy).Contents (Elt F)),
    nary ![main_v51, main_v52, main_v53, main_v54] main_v55 (fun u => stackRows (F := F) (u 0) (u 1) (u 2) (u 3)) ]

/-- The program's operations. -/
def ops : List (HloOp τ sig (Elt F)) :=
  opsMatch ++ (opsTake (.of main_v1) (.of main_v6) main_call1 ++ (opsHistA ++ (opsTake (.of main_v3) (.of main_v0) main_call3
    ++ (opsHistB ++ (opsTake (.of main_v1) (.of main_v0) main_call5 ++ (opsHistC ++ opsStack))))))

set_option maxHeartbeats 4000000 in
/-- The program is the sequence of its operations. -/
theorem main_ops (c : Dev nD) : main (F := F) c = seq ops := rfl

/-! ## What each stage leaves -/

set_option maxHeartbeats 1000000

variable (V : Valuation τ sig (Elt F))

/-- The mask is one everywhere. -/
theorem match_v0 : after opsMatch V (Proc.devRef .tc main_v0) = (words 1#32 : IVec S524288 32) := by
  unfold opsMatch; after_reads_simp; rfl
/-- The labels, as floats. -/
theorem match_v1 : after opsMatch V (Proc.devRef .tc main_v1) = (sitofp .f32 (V (Proc.devRef .tc main_arg1)) : FVec F S524288 .f32) := by
  unfold opsMatch; after_reads_simp
/-- The argmax of each row of logits, as floats. -/
theorem match_v3 : after opsMatch V (Proc.devRef .tc main_v3) = (sitofp .f32 (argmaxOf (V (Proc.devRef .tc main_arg0))) : FVec F S524288 .f32) := by
  unfold opsMatch
  simp only [TRef.binary, TRef.nullary, TRef.quaternary, TRef.ternary, TRef.unary, TRef.toBuf, TRef.ofBuf, cast_eq]
  after_reads_simp; unfold argmaxOf; try rfl
/-- The matches: one where the label is the argmax, else zero. -/
theorem match_v6 : after opsMatch V (Proc.devRef .tc main_v6) = matchOf (V (Proc.devRef .tc main_arg0)) (V (Proc.devRef .tc main_arg1)) := by
  unfold opsMatch
  simp only [TRef.binary, TRef.nullary, TRef.quaternary, TRef.ternary, TRef.unary, TRef.toBuf, TRef.ofBuf, cast_eq]
  after_reads_simp; unfold matchOf argmaxOf words; rfl

/-- The labels gathered at the matches. -/
theorem take_v7 : after (opsTake (.of main_v1) (.of main_v6) main_call1) V (Proc.devRef .tc main_v7)
    = takeOf (V (Proc.devRef .tc main_v1)) (V (Proc.devRef .tc main_v6)) := by
  unfold opsTake
  simp only [main_call1, TRef.binary, TRef.nullary, TRef.quaternary, TRef.ternary, TRef.unary, TRef.toBuf, TRef.ofBuf, cast_eq]
  after_reads_simp; rfl
/-- The argmax gathered at the mask. -/
theorem take_v20 : after (opsTake (.of main_v3) (.of main_v0) main_call3) V (Proc.devRef .tc main_v20)
    = takeOf (V (Proc.devRef .tc main_v3)) (V (Proc.devRef .tc main_v0)) := by
  unfold opsTake
  simp only [main_call3, TRef.binary, TRef.nullary, TRef.quaternary, TRef.ternary, TRef.unary, TRef.toBuf, TRef.ofBuf, cast_eq]
  after_reads_simp; rfl
/-- The labels gathered at the mask. -/
theorem take_v33 : after (opsTake (.of main_v1) (.of main_v0) main_call5) V (Proc.devRef .tc main_v33)
    = takeOf (V (Proc.devRef .tc main_v1)) (V (Proc.devRef .tc main_v0)) := by
  unfold opsTake
  simp only [main_call5, TRef.binary, TRef.nullary, TRef.quaternary, TRef.ternary, TRef.unary, TRef.toBuf, TRef.ofBuf, cast_eq]
  after_reads_simp; rfl

/-- The counts of the labels gathered at the matches. -/
theorem hist_v19 : after opsHistA V (Proc.devRef .tc main_v19) = histOf (V (Proc.devRef .tc main_v7)) := by
  unfold opsHistA
  simp only [main_call2, TRef.binary, TRef.nullary, TRef.quaternary, TRef.ternary, TRef.unary, TRef.toBuf, TRef.ofBuf, cast_eq]
  after_reads_simp; rfl
/-- The counts of the argmax gathered at the mask. -/
theorem hist_v32 : after opsHistB V (Proc.devRef .tc main_v32) = histOf (V (Proc.devRef .tc main_v20)) := by
  unfold opsHistB
  simp only [main_call4, TRef.binary, TRef.nullary, TRef.quaternary, TRef.ternary, TRef.unary, TRef.toBuf, TRef.ofBuf, cast_eq]
  after_reads_simp; rfl
/-- The counts of the labels gathered at the mask. -/
theorem hist_v45 : after opsHistC V (Proc.devRef .tc main_v45) = histOf (V (Proc.devRef .tc main_v33)) := by
  unfold opsHistC
  simp only [main_call6, TRef.binary, TRef.nullary, TRef.quaternary, TRef.ternary, TRef.unary, TRef.toBuf, TRef.ofBuf, cast_eq]
  after_reads_simp; rfl

/-- The result: the three counts and the total, stacked. -/
theorem stack_v55 : after opsStack V (Proc.devRef .tc main_v55)
    = stackRows (row (V (Proc.devRef .tc main_v19))) (row (V (Proc.devRef .tc main_v32))) (row (V (Proc.devRef .tc main_v45)))
        (row (totalOf (V (Proc.devRef .tc main_v0)))) := by
  unfold opsStack
  after_reads_simp
  dsimp only [Matrix.cons_val]
  after_reads_simp
  rfl

/-! ## What each stage keeps -/

/-- The matching stage leaves the logits. -/
theorem match_keeps_arg0 : after opsMatch V (Proc.devRef .tc main_arg0) = V (Proc.devRef .tc main_arg0) := by
  after_reads_simp
/-- The matching stage leaves the labels. -/
theorem match_keeps_arg1 : after opsMatch V (Proc.devRef .tc main_arg1) = V (Proc.devRef .tc main_arg1) := by
  after_reads_simp
/-- The first gather leaves the logits. -/
theorem takeA_keeps_arg0 : after (opsTake (.of main_v1) (.of main_v6) main_call1) V (Proc.devRef .tc main_arg0) = V (Proc.devRef .tc main_arg0) := by
  after_reads_simp
/-- The first gather leaves the labels. -/
theorem takeA_keeps_arg1 : after (opsTake (.of main_v1) (.of main_v6) main_call1) V (Proc.devRef .tc main_arg1) = V (Proc.devRef .tc main_arg1) := by
  after_reads_simp
/-- The first gather leaves the mask. -/
theorem takeA_keeps_v0 : after (opsTake (.of main_v1) (.of main_v6) main_call1) V (Proc.devRef .tc main_v0) = V (Proc.devRef .tc main_v0) := by
  after_reads_simp
/-- The first gather leaves the labels as floats. -/
theorem takeA_keeps_v1 : after (opsTake (.of main_v1) (.of main_v6) main_call1) V (Proc.devRef .tc main_v1) = V (Proc.devRef .tc main_v1) := by
  after_reads_simp
/-- The first gather leaves the argmax as floats. -/
theorem takeA_keeps_v3 : after (opsTake (.of main_v1) (.of main_v6) main_call1) V (Proc.devRef .tc main_v3) = V (Proc.devRef .tc main_v3) := by
  after_reads_simp
/-- The first histogram leaves the logits. -/
theorem histA_keeps_arg0 : after opsHistA V (Proc.devRef .tc main_arg0) = V (Proc.devRef .tc main_arg0) := by
  after_reads_simp
/-- The first histogram leaves the labels. -/
theorem histA_keeps_arg1 : after opsHistA V (Proc.devRef .tc main_arg1) = V (Proc.devRef .tc main_arg1) := by
  after_reads_simp
/-- The first histogram leaves the mask. -/
theorem histA_keeps_v0 : after opsHistA V (Proc.devRef .tc main_v0) = V (Proc.devRef .tc main_v0) := by
  after_reads_simp
/-- The first histogram leaves the labels as floats. -/
theorem histA_keeps_v1 : after opsHistA V (Proc.devRef .tc main_v1) = V (Proc.devRef .tc main_v1) := by
  after_reads_simp
/-- The first histogram leaves the argmax as floats. -/
theorem histA_keeps_v3 : after opsHistA V (Proc.devRef .tc main_v3) = V (Proc.devRef .tc main_v3) := by
  after_reads_simp
/-- The second gather leaves the logits. -/
theorem takeB_keeps_arg0 : after (opsTake (.of main_v3) (.of main_v0) main_call3) V (Proc.devRef .tc main_arg0) = V (Proc.devRef .tc main_arg0) := by
  after_reads_simp
/-- The second gather leaves the labels. -/
theorem takeB_keeps_arg1 : after (opsTake (.of main_v3) (.of main_v0) main_call3) V (Proc.devRef .tc main_arg1) = V (Proc.devRef .tc main_arg1) := by
  after_reads_simp
/-- The second gather leaves the mask. -/
theorem takeB_keeps_v0 : after (opsTake (.of main_v3) (.of main_v0) main_call3) V (Proc.devRef .tc main_v0) = V (Proc.devRef .tc main_v0) := by
  after_reads_simp
/-- The second gather leaves the labels as floats. -/
theorem takeB_keeps_v1 : after (opsTake (.of main_v3) (.of main_v0) main_call3) V (Proc.devRef .tc main_v1) = V (Proc.devRef .tc main_v1) := by
  after_reads_simp
/-- The second gather leaves the first histogram. -/
theorem takeB_keeps_v19 : after (opsTake (.of main_v3) (.of main_v0) main_call3) V (Proc.devRef .tc main_v19) = V (Proc.devRef .tc main_v19) := by
  after_reads_simp
/-- The second histogram leaves the logits. -/
theorem histB_keeps_arg0 : after opsHistB V (Proc.devRef .tc main_arg0) = V (Proc.devRef .tc main_arg0) := by
  after_reads_simp
/-- The second histogram leaves the labels. -/
theorem histB_keeps_arg1 : after opsHistB V (Proc.devRef .tc main_arg1) = V (Proc.devRef .tc main_arg1) := by
  after_reads_simp
/-- The second histogram leaves the mask. -/
theorem histB_keeps_v0 : after opsHistB V (Proc.devRef .tc main_v0) = V (Proc.devRef .tc main_v0) := by
  after_reads_simp
/-- The second histogram leaves the labels as floats. -/
theorem histB_keeps_v1 : after opsHistB V (Proc.devRef .tc main_v1) = V (Proc.devRef .tc main_v1) := by
  after_reads_simp
/-- The second histogram leaves the first histogram. -/
theorem histB_keeps_v19 : after opsHistB V (Proc.devRef .tc main_v19) = V (Proc.devRef .tc main_v19) := by
  after_reads_simp
/-- The third gather leaves the logits. -/
theorem takeC_keeps_arg0 : after (opsTake (.of main_v1) (.of main_v0) main_call5) V (Proc.devRef .tc main_arg0) = V (Proc.devRef .tc main_arg0) := by
  after_reads_simp
/-- The third gather leaves the labels. -/
theorem takeC_keeps_arg1 : after (opsTake (.of main_v1) (.of main_v0) main_call5) V (Proc.devRef .tc main_arg1) = V (Proc.devRef .tc main_arg1) := by
  after_reads_simp
/-- The third gather leaves the mask. -/
theorem takeC_keeps_v0 : after (opsTake (.of main_v1) (.of main_v0) main_call5) V (Proc.devRef .tc main_v0) = V (Proc.devRef .tc main_v0) := by
  after_reads_simp
/-- The third gather leaves the first histogram. -/
theorem takeC_keeps_v19 : after (opsTake (.of main_v1) (.of main_v0) main_call5) V (Proc.devRef .tc main_v19) = V (Proc.devRef .tc main_v19) := by
  after_reads_simp
/-- The third gather leaves the second histogram. -/
theorem takeC_keeps_v32 : after (opsTake (.of main_v1) (.of main_v0) main_call5) V (Proc.devRef .tc main_v32) = V (Proc.devRef .tc main_v32) := by
  after_reads_simp
/-- The third histogram leaves the logits. -/
theorem histC_keeps_arg0 : after opsHistC V (Proc.devRef .tc main_arg0) = V (Proc.devRef .tc main_arg0) := by
  after_reads_simp
/-- The third histogram leaves the labels. -/
theorem histC_keeps_arg1 : after opsHistC V (Proc.devRef .tc main_arg1) = V (Proc.devRef .tc main_arg1) := by
  after_reads_simp
/-- The third histogram leaves the mask. -/
theorem histC_keeps_v0 : after opsHistC V (Proc.devRef .tc main_v0) = V (Proc.devRef .tc main_v0) := by
  after_reads_simp
/-- The third histogram leaves the first histogram. -/
theorem histC_keeps_v19 : after opsHistC V (Proc.devRef .tc main_v19) = V (Proc.devRef .tc main_v19) := by
  after_reads_simp
/-- The third histogram leaves the second histogram. -/
theorem histC_keeps_v32 : after opsHistC V (Proc.devRef .tc main_v32) = V (Proc.devRef .tc main_v32) := by
  after_reads_simp
/-- The last stage leaves the logits. -/
theorem stack_keeps_arg0 : after opsStack V (Proc.devRef .tc main_arg0) = V (Proc.devRef .tc main_arg0) := by
  after_reads_simp
/-- The last stage leaves the labels. -/
theorem stack_keeps_arg1 : after opsStack V (Proc.devRef .tc main_arg1) = V (Proc.devRef .tc main_arg1) := by
  after_reads_simp

/-- The result buffer holds the reference's value at the launch contents of the arguments. -/
theorem ops_v55 : after ops V (Proc.devRef .tc main_v55) = value (V (Proc.devRef .tc main_arg0)) (V (Proc.devRef .tc main_arg1)) := by
  simp only [ops, StableHlo.after_append]
  rw [stack_v55, hist_v45, histC_keeps_v32, histC_keeps_v19, histC_keeps_v0, take_v33, takeC_keeps_v32, takeC_keeps_v19, takeC_keeps_v0,
    hist_v32, histB_keeps_v19, histB_keeps_v0, histB_keeps_v1, take_v20, takeB_keeps_v19, takeB_keeps_v0, takeB_keeps_v1,
    hist_v19, histA_keeps_v0, histA_keeps_v1, histA_keeps_v3, take_v7, takeA_keeps_v0, takeA_keeps_v1, takeA_keeps_v3,
    match_v0, match_v1, match_v3, match_v6]
  rfl

/-- The whole program leaves the logits. -/
theorem ops_arg0 : after ops V (Proc.devRef .tc main_arg0) = V (Proc.devRef .tc main_arg0) := by
  simp only [ops, StableHlo.after_append]
  rw [stack_keeps_arg0, histC_keeps_arg0, takeC_keeps_arg0, histB_keeps_arg0, takeB_keeps_arg0, histA_keeps_arg0, takeA_keeps_arg0, match_keeps_arg0]
/-- The whole program leaves the labels. -/
theorem ops_arg1 : after ops V (Proc.devRef .tc main_arg1) = V (Proc.devRef .tc main_arg1) := by
  simp only [ops, StableHlo.after_append]
  rw [stack_keeps_arg1, histC_keeps_arg1, takeC_keeps_arg1, histB_keeps_arg1, takeB_keeps_arg1, histA_keeps_arg1, takeA_keeps_arg1, match_keeps_arg1]

/-! ## The run -/

/-- Every operation's buffers are the core's. -/
theorem ops_sub : (ops : List (HloOp τ sig (Elt F))).Forall fun op => op.bufs ⊆ tcRefs τ sig := by
  unfold ops opsMatch opsTake opsHistA opsHistB opsHistC opsStack
  simp

/-- Every operation determines its results. -/
theorem ops_fresh : ∀ op ∈ (ops : List (HloOp τ sig (Elt F))), op.fresh = ∅ :=
  List.forall_iff_forall_mem.mp (StableHlo.forall_fresh_of_map rfl)

/-- Every execution ends with the reference's value in the result buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (ops_v55 _), (h c main_arg0).trans (ops_arg0 _), (h c main_arg1).trans (ops_arg1 _)⟩)
    (run_seq (by decide) (by decide) defs main (fun _ => ops) main_ops (fun _ => ops_sub) m ρ (fun _ => ops_fresh))

end Cert.Proof.Ref

end
-- ==== Proof.RefArgmax.lean ====
/-
  The reference's operations at an index, over the extended reals: its argmax.
-/
module

public import proofs.«01_k».proof.Proof.RefRun
public import proofs.«01_k».proof.Proof.Spec
public import Idealize.ShloMosaic.PureOps.Ideal
public import Idealize.ShloMosaic.PureOps.Reduce
public import Idealize.ShloMosaic.Lib.ValueIdxCore
public import Idealize.ShloMosaic.Lib.WordCmp
public import Idealize.ShloMosaic.Lib.Routing.Shapes
import Idealize.ShloMosaic.PureOps.Ideal.Laws
import Idealize.ShloMosaic.Lib.Routing.Ops
import Idealize.ShloMosaic.Lib.Routing.OpsPair
import Idealize.ShloMosaic.Lib.Routing.OpsSet

@[expose] public section
set_option maxRecDepth 16384
noncomputable section
namespace Cert.Proof.Ref
open Cert.ReferenceIdeal Cert.ReferenceIdeal.Gen Idealize.ShloMosaic Idealize.ShloMosaic.ValueIdx

/-! ## The argmax -/

/-- The reducer of the argmax keeps one of its two pairs, and that one is preferred to both. -/
theorem reducer_pref (a b : EReal × BitVec 32) :
    (reducer_argmax_f32_i32 (F := Ideal) a b = a ∨ reducer_argmax_f32_i32 (F := Ideal) a b = b)
      ∧ Pref (reducer_argmax_f32_i32 (F := Ideal) a b) a ∧ Pref (reducer_argmax_f32_i32 (F := Ideal) a b) b := by
  obtain ⟨x, i⟩ := a
  obtain ⟨y, j⟩ := b
  have e : reducer_argmax_f32_i32 (F := Ideal) (x, i) (y, j)
      = (if y < x then x else y, if y < x ∨ (x = y ∧ i.toInt < j.toInt) then i else j) := by
    unfold reducer_argmax_f32_i32
    simp only [Ideal.cmpf_def, Ideal.cmp, WordCmp.cmpi_slt_eq, WordCmp.andi_ofBool, WordCmp.ori_ofBool, WordCmp.select_ofBool]
    by_cases h1 : y < x <;> by_cases h2 : x = y <;> by_cases h3 : i.toInt < j.toInt <;> simp [h1, h2, h3]
  rw [e]
  by_cases h1 : y < x
  · rw [if_pos h1, if_pos (.inl h1)]
    exact ⟨.inl rfl, Pref.refl _, .inl h1⟩
  · rw [if_neg h1]
    simp only [h1, false_or]
    rcases lt_or_eq_of_le (not_lt.mp h1) with h2 | h2
    · rw [if_neg fun h => h2.ne h.1]
      exact ⟨.inr rfl, .inl h2, Pref.refl _⟩
    · subst h2
      by_cases h3 : i.toInt < j.toInt
      · rw [if_pos ⟨rfl, h3⟩]
        exact ⟨.inl rfl, Pref.refl _, .inr ⟨rfl, h3.le⟩⟩
      · rw [if_neg fun h => h3 h.2]
        exact ⟨.inr rfl, .inr ⟨rfl, not_lt.mp h3⟩, Pref.refl _⟩

/-- A matrix's row `n` with its lane numbers, as the reduction over lanes lists it. -/
theorem mem_fiber {N : ℕ} (x : FVec Ideal (Routing.shape2 N 128) .f32) (h : (Routing.shape2 N 128).ReducesTo [1] (Routing.shape1 N))
    (n : Fin N) (p : EReal × BitVec 32) :
    p ∈ Host.argReduceFiber x (iotaInDim (Routing.shape2 N 128) 32 1) h (ix1 n)
      ↔ ∃ l : Fin 128, p = ((x (ix2 n l) : EReal), BitVec.ofNat 32 l.val) := by
  have hd : ∀ (a : Fin N) (l : Fin 128), h.drop (ix2 a l) = ix1 n ↔ a = n := by
    intro a l
    have e : (h.drop (ix2 a l) 0 : Nat) = a.val := Shape.ReducesTo.drop_apply_val_of_eq h (ix2 a l) 0 0 Nat.zero_lt_one rfl
    constructor
    · intro g
      exact Fin.ext (e.symm.trans (congrArg (fun q => (q 0 : Nat)) g))
    · intro g
      subst g
      funext b
      fin_cases b
      exact Fin.ext e
  unfold Host.argReduceFiber
  rw [List.mem_map]
  constructor
  · rintro ⟨k, hk, rfl⟩
    have hk := of_decide_eq_true (List.mem_filter.mp hk).2
    generalize (Routing.shape2 N 128).rowMajor.symm k = i at hk ⊢
    obtain ⟨a, l, rfl⟩ : ∃ (a : Fin N) (l : Fin 128), i = ix2 a l :=
      ⟨i 0, i 1, funext fun b => by fin_cases b <;> rfl⟩
    obtain rfl := (hd a l).mp hk
    exact ⟨l, rfl⟩
  · rintro ⟨l, rfl⟩
    refine ⟨(Routing.shape2 N 128).rowMajor (ix2 n l), List.mem_filter.mpr ⟨List.mem_finRange _, decide_eq_true ?_⟩, ?_⟩
    · rw [Equiv.symm_apply_apply]
      exact (hd n l).mpr rfl
    · rw [Equiv.symm_apply_apply]
      rfl

/-- The argmax over lanes of a matrix, at row `n`. -/
theorem argReduce_row {N : ℕ} (x : FVec Ideal (Routing.shape2 N 128) .f32) (h : (Routing.shape2 N 128).ReducesTo [1] (Routing.shape1 N))
    (u : Routing.shape0.Idx → Ideal .f32) (v : IVec Routing.shape0 32) (hu : 0 < Routing.shape0.numel) (h0 : u (Shape.Idx.first hu) = (⊥ : EReal))
    (h1 : v (Shape.Idx.first hu) = 0#32) (n : Fin N) :
    (Host.argReduce (reducer_argmax_f32_i32 (F := Ideal)) x (iotaInDim (Routing.shape2 N 128) 32 1) u v h hu (ix1 n)).2
      = BitVec.ofNat 32 (top fun l : Fin 128 => (x (ix2 n l) : EReal)).val := by
  rw [Ideal.argReduce_eq_reduce2, Host.reduce2_eq_foldl_fiber, h0, h1]
  exact congrArg Prod.snd (foldl_top _ reducer_pref (fun l : Fin 128 => (x (ix2 n l) : EReal)) _ (mem_fiber x h n))

/-- The reference's argmax as the library's reduction. -/
theorem argmax_eq (x : FVec Ideal S524288x128 .f32) :
    argmaxOf x = fun j => (Host.argReduce (reducer_argmax_f32_i32 (F := Ideal)) x (iotaInDim S524288x128 32 1)
      (constant S_ .f32 0xFF800000#32) (constantI S_ 32 0#32) reducesTo_S524288x128_S524288_d1 h_S_ j).2 := rfl

/-- The reference's argmax is the first position of the row's greatest entry. -/
theorem argmax_apply (x : FVec Ideal S524288x128 .f32) (n : Fin 524288) :
    argmaxOf x (ix1 n) = BitVec.ofNat 32 (top fun l : Fin 128 => (x (ix2 n l) : EReal)).val :=
  (congrFun (argmax_eq x) (ix1 n)).trans (argReduce_row x reducesTo_S524288x128_S524288_d1 _ _ h_S_ ofBits_start rfl n)

end Cert.Proof.Ref
end
-- ==== Proof.RefCount.lean ====
/-
  The reference's operations at an index, over the extended reals: its counts.
-/
module

public import proofs.«01_k».proof.Proof.RefRun
public import proofs.«01_k».proof.Proof.Spec
public import Idealize.ShloMosaic.PureOps.Ideal
public import Idealize.ShloMosaic.PureOps.Reduce
public import Idealize.ShloMosaic.Lib.ValueIdxCore
public import Idealize.ShloMosaic.Lib.WordCmp
public import Idealize.ShloMosaic.Lib.Routing.Shapes
import Idealize.ShloMosaic.PureOps.Ideal.Laws
import Idealize.ShloMosaic.Lib.Routing.Ops
import Idealize.ShloMosaic.Lib.Routing.OpsPair
import Idealize.ShloMosaic.Lib.Routing.OpsSet

@[expose] public section
set_option maxRecDepth 16384
noncomputable section
namespace Cert.Proof.Ref
open Cert.ReferenceIdeal Cert.ReferenceIdeal.Gen Idealize.ShloMosaic Idealize.ShloMosaic.ValueIdx

/-! ## The counts -/

/-- Update `i` is counted in bin `l` exactly when its word is `l`. -/
theorem lands (idx : IVec S524288x1 32) (i : Fin 524288) (l : Fin 128) :
    scatter_S128_S524288x1_S524288_n_0_0_1.resultIdx? (ix1 i) idx = some (ix1 l) ↔ idx (ix2 i (0 : Fin 1)) = BitVec.ofNat 32 l.val := by
  have hs : scatter_S128_S524288x1_S524288_n_0_0_1.start (ix1 i) idx 0 = (idx (ix2 i (0 : Fin 1))).toInt := by
    unfold ScatterDims.start
    rw [dif_pos (show (0 : Fin 1) ∈ scatter_S128_S524288x1_S524288_n_0_0_1.scatterDimsToOperandDims from List.mem_singleton.mpr rfl)]
    refine congrArg (fun q => (idx q).toInt) (funext fun b => ?_)
    fin_cases b
    · exact Fin.ext rfl
    · exact Fin.ext rfl
  have hw : scatter_S128_S524288x1_S524288_n_0_0_1.window (ix1 i) 0 = 0 := by
    rfl
  refine (Routing.resultIdx?_ix1 _ _ _ _).trans ?_
  rw [hs, hw, ← toInt_lane l]
  constructor
  · intro h
    exact BitVec.eq_of_toInt_eq (by simpa using h)
  · intro h
    rw [h]; simp

/-- A fold that adds 1 at each element with a property counts them. -/
theorem foldl_hits {ι : Type} (P : ι → Prop) [DecidablePred P] (L : List ι) :
    ∀ z : ℕ, L.foldl (fun a n => if P n then IntOp.addi a 1#32 else a) (BitVec.ofNat 32 z)
      = BitVec.ofNat 32 (z + L.countP fun n => decide (P n)) := by
  induction L with
  | nil => intro z; rfl
  | cons n L ih =>
    intro z
    rw [List.foldl_cons, List.countP_cons]
    by_cases h : P n
    · rw [if_pos h, show IntOp.addi (BitVec.ofNat 32 z) 1#32 = BitVec.ofNat 32 (z + 1) from (BitVec.ofNat_add z 1).symm, ih]
      simp [h, Nat.add_assoc, Nat.add_comm 1]
    · rw [if_neg h, ih]
      simp [h]

/-- The number of listed positions with a property is the size of their set. -/
theorem countP_card (N : ℕ) (P : Fin N → Prop) [DecidablePred P] :
    (List.finRange N).countP (fun n => decide (P n)) = (Finset.univ.filter P).card := by
  rw [List.countP_eq_length_filter]
  rfl

/-- A histogram counts, at lane `l`, the entries whose bin is `l`. -/
theorem hist_apply (z : FVec Ideal S524288 .f32) (l : Fin 128) :
    histOf z (ix1 l) = (((Finset.univ.filter fun n : Fin 524288 => bins z (ix2 n (0 : Fin 1)) = BitVec.ofNat 32 l.val).card : ℝ) : EReal) := by
  have hc : Host.scatter scatter_S128_S524288x1_S524288_n_0_0_1 IntOp.addi (broadcastInDim S128 ![] bcast_S_S128 (constantI S_ 32 0#32)) (bins z)
      (words 1#32) (ix1 l)
      = BitVec.ofNat 32 (Finset.univ.filter fun n : Fin 524288 => bins z (ix2 n (0 : Fin 1)) = BitVec.ofNat 32 l.val).card := by
    rw [Routing.scatter_at]
    refine (foldl_hits (fun n => scatter_S128_S524288x1_S524288_n_0_0_1.resultIdx? (S524288.rowMajor.symm n) (bins z) = some (ix1 l)) _ 0).trans ?_
    rw [countP_card, Nat.zero_add]
    refine congrArg (BitVec.ofNat 32) (Finset.card_equiv (finCongr (Routing.numel1 524288)) fun n => ?_)
    rw [Finset.mem_filter, Finset.mem_filter]
    refine and_congr (by simp) ?_
    rw [show S524288.rowMajor.symm n = ix1 (finCongr (Routing.numel1 524288) n) from Routing.symm1 n]
    exact lands _ _ _
  have hn : (Finset.univ.filter fun n : Fin 524288 => bins z (ix2 n (0 : Fin 1)) = BitVec.ofNat 32 l.val).card ≤ 524288 :=
    (Finset.card_le_univ _).trans (by simp)
  refine (congrArg (fun w : BitVec 32 => ((w.toInt : ℝ) : EReal)) hc).trans ?_
  rw [WordCmp.toInt_ofNat_of_lt (w := 32) (by omega), Int.cast_natCast]

/-- A vector as a column, at a row. -/
theorem column_apply (v : IVec S524288 32) (n : Fin 524288) :
    broadcastInDim S524288x1 ![0] bcast_S524288_S524288x1_0 v (ix2 n (0 : Fin 1)) = v (ix1 n) :=
  Routing.bcCol bcast_S524288_S524288x1_0 v n

/-- The bin of an entry that is a nonnegative word is that word. -/
theorem bins_apply (z : FVec Ideal S524288 .f32) (n : Fin 524288) (w : BitVec 32) (hz : z (ix1 n) = ((w.toInt : ℝ) : EReal)) (hw : 0 ≤ w.toInt) :
    bins z (ix2 n (0 : Fin 1)) = w := by
  have hf : Ideal.fptosi 32 (z (ix1 n)) = w := by
    rw [hz, Ideal.fptosi, Ideal.toIntClamped_coe, if_pos (by exact_mod_cast hw), Int.floor_intCast]
    have h1 := w.toInt_lt
    have h2 := w.le_toInt
    rw [min_eq_right (by omega), max_eq_right (by omega)]
    exact BitVec.ofInt_toInt
  have hc : clipped z (ix1 n) = w := by
    show IntOp.maxsi 0#32 (Ideal.fptosi 32 (z (ix1 n))) = w
    rw [hf]
    refine BitVec.eq_of_toInt_eq ?_
    rw [toInt_maxsi]
    exact max_eq_right hw
  refine (column_apply _ n).trans ?_
  show Scalar.select (IntOp.cmpi .slt (clipped z (ix1 n)) 0#32) (IntOp.addi (clipped z (ix1 n)) 128#32) (clipped z (ix1 n)) = w
  rw [hc, WordCmp.cmpi_slt_eq, WordCmp.select_ofBool, if_neg]
  simpa using hw

/-- The histogram of entries that are nonnegative words. -/
theorem hist_of (z : FVec Ideal S524288 .f32) (w : Fin 524288 → BitVec 32) (hz : ∀ n, z (ix1 n) = (((w n).toInt : ℝ) : EReal))
    (hw : ∀ n, 0 ≤ (w n).toInt) (l : Fin 128) :
    histOf z (ix1 l) = (((Finset.univ.filter fun n : Fin 524288 => w n = BitVec.ofNat 32 l.val).card : ℝ) : EReal) := by
  rw [hist_apply]
  simp only [fun n => bins_apply z n (w n) (hz n) (hw n)]

/-! ## The takes -/

/-- The conjunction over a column of one bit is that bit. -/
theorem all_row {N : ℕ} (x : IVec (Routing.shape2 N 1) 1) (h : (Routing.shape2 N 1).ReducesTo [1] (Routing.shape1 N)) (v : IVec Routing.shape0 1)
    (hu : 0 < Routing.shape0.numel) (hv : v (Shape.Idx.first hu) = 1#1) (n : Fin N) (hx : x (ix2 n (0 : Fin 1)) = 1#1) :
    Host.reduce IntOp.andi x v h hu (ix1 n) = 1#1 := by
  rw [Host.reduce_eq_foldl, hv]
  have hL : ∀ i ∈ ((List.finRange (Routing.shape2 N 1).numel).map (Routing.shape2 N 1).rowMajor.symm).filter fun i => h.drop i = ix1 n, x i = 1#1 := by
    intro i hi
    have hi := of_decide_eq_true (List.mem_filter.mp hi).2
    have e : (h.drop i 0 : Nat) = (i 0).val := Shape.ReducesTo.drop_apply_val_of_eq h i 0 0 Nat.zero_lt_one rfl
    have e' : i = ix2 n (0 : Fin 1) := by
      funext b
      fin_cases b
      · exact Fin.ext (e.symm.trans (congrArg (fun q => (q 0 : Nat)) hi))
      · exact Subsingleton.elim (α := Fin 1) _ _
    rw [e', hx]
  revert hL
  generalize List.filter _ _ = L
  intro hL
  induction L with
  | nil => rfl
  | cons a L ih =>
    rw [List.foldl_cons, hL a List.mem_cons_self]
    exact ih fun i hi => hL i (List.mem_cons_of_mem _ hi)

/-- The test of the positions as the library's reduction. -/
theorem inside_eq (k : IVec S524288x1 32) : inside k = Host.reduce IntOp.andi
    (andi (cmpi .sge k (broadcastInDim S524288x1 ![] bcast_S_S524288x1 (constantI S_ 32 0#32)))
      (cmpi .sle k (broadcastInDim S524288x1 ![0, 1] bcast_S1x1_S524288x1_0_1 (broadcastInDim S1x1 ![1] bcast_S1_S1x1_1 (constantI S1 32 524287#32)))))
    (constantI S_ 1 1#1) reducesTo_S524288x1_S524288_d1 h_S_ := rfl

/-- A take at position 0 or 1 reads that entry. -/
theorem take_apply (x : FVec Ideal S524288 .f32) (i : IVec S524288 32) (n : Fin 524288) (k : Fin 2) (hi : i (ix1 n) = BitVec.ofNat 32 k.val) :
    takeOf x i (ix1 n) = x (ix1 (⟨k.val, by omega⟩ : Fin 524288)) := by
  have hk : (BitVec.ofNat 32 k.val).toInt = k.val := WordCmp.toInt_ofNat_of_lt (by omega)
  have hwr : wrapped i (ix2 n (0 : Fin 1)) = BitVec.ofNat 32 k.val := by
    refine (column_apply _ n).trans ?_
    show Scalar.select (IntOp.cmpi .slt (i (ix1 n)) 0#32) (IntOp.addi (i (ix1 n)) 524288#32) (i (ix1 n)) = _
    rw [hi, WordCmp.cmpi_slt_eq, WordCmp.select_ofBool, if_neg]
    rw [hk]; simp
  have hg : Host.gather gather_S524288_S524288x1_S524288_n_0_n_n_0_1_1 x (wrapped i) (ix1 n) = x (ix1 (⟨k.val, by omega⟩ : Fin 524288)) :=
    Routing.gather_take1 gather_S524288_S524288x1_S524288_n_0_n_n_0_1_1 rfl rfl rfl rfl x (wrapped i) n ⟨k.val, by omega⟩ hwr (by norm_num)
  have hin : inside (wrapped i) (ix1 n) = 1#1 := by
    refine (congrFun (inside_eq _) (ix1 n)).trans (all_row _ reducesTo_S524288x1_S524288_d1 _ h_S_ rfl n ?_)
    show IntOp.andi (IntOp.cmpi .sge (wrapped i (ix2 n (0 : Fin 1))) 0#32) (IntOp.cmpi .sle (wrapped i (ix2 n (0 : Fin 1))) 524287#32) = 1#1
    rw [hwr, WordCmp.cmpi_sge_eq, WordCmp.cmpi_sle_eq, hk, WordCmp.andi_ofBool, WordCmp.ofBool_eq_one_iff]
    have := k.isLt
    have e : (524287#32 : BitVec 32).toInt = 524287 := by decide
    rw [e]
    simp; omega
  unfold takeOf
  rw [WordCmp.select_at, hin, WordCmp.select_one, hg]

end Cert.Proof.Ref
end
-- ==== Proof.RefRows.lean ====
/-
  The reference's four rows, stacked, at an index.
-/
module

public import proofs.«01_k».proof.Proof.RefRun
public import Idealize.ShloMosaic.PureOps.Ideal
public import Idealize.ShloMosaic.Lib.Pointwise

@[expose] public section
set_option maxRecDepth 16384
noncomputable section
namespace Cert.Proof.Ref
open Cert.ReferenceIdeal Cert.ReferenceIdeal.Gen Idealize.ShloMosaic

/-- The rows of the result, at an index. -/
theorem stack_apply (a b c d : FVec Ideal S128 .f32) (r : Fin 4) (l : Fin 128) :
    stackRows (row a) (row b) (row c) (row d) (ix2 r l)
      = if r = 0 then a (ix1 l) else if r = 1 then b (ix1 l) else if r = 2 then c (ix1 l) else d (ix1 l) := by
  fin_cases r <;> pointwise [stackRows, row]

/-- The rows of the result, at an index, from their entries. -/
theorem stack_value (a b c d : FVec Ideal S128 .f32) (r : Fin 4) (l : Fin 128) (va vb vc vd : EReal) (ha : a (ValueIdx.ix1 l) = va)
    (hb : b (ValueIdx.ix1 l) = vb) (hc : c (ValueIdx.ix1 l) = vc) (hd : d (ValueIdx.ix1 l) = vd) :
    stackRows (row a) (row b) (row c) (row d) (ValueIdx.ix2 r l) = if r = 0 then va else if r = 1 then vb else if r = 2 then vc else vd := by
  subst ha hb hc hd
  exact stack_apply a b c d r l

end Cert.Proof.Ref
end
-- ==== Proof.RefValue.lean ====
/-
  The reference's result over the extended reals: its four rows are those of the specification.
-/
module

public import proofs.«01_k».proof.Proof.RefArgmax
public import proofs.«01_k».proof.Proof.RefCount
import proofs.«01_k».proof.Proof.RefRows
public import proofs.«01_k».proof.Proof.Gen.Pre_first_two_nonnegative
import Idealize.ShloMosaic.PureOps.Ideal.Laws
import Idealize.ShloMosaic.Lib.Routing.Ops

@[expose] public section
set_option maxRecDepth 16384
noncomputable section
namespace Cert.Proof.Ref
open Cert.ReferenceIdeal Cert.ReferenceIdeal.Gen
open Idealize.ShloMosaic hiding ix0 ix1 ix2
open Idealize.ShloMosaic.ValueIdx (ix0 ix1 ix2)

/-- Words that are converted to floats compare equal exactly when they are equal; the result as a word is 1 or 0. -/
theorem equal_word (a b : IVec S524288 32) (j : S524288.Idx) :
    muli (extui 32 (cmpf .oeq (sitofp .f32 a : FVec Ideal S524288 .f32) (sitofp .f32 b)) natLt_1_32) (words 1#32) j
      = if a j = b j then 1#32 else 0#32 := by
  show IntOp.muli (BitVec.setWidth 32 (BitVec.ofBool (decide ((((a j).toInt : ℝ) : EReal) = (((b j).toInt : ℝ) : EReal))))) 1#32 = _
  by_cases h : a j = b j
  · rw [if_pos h, h]; simp; rfl
  · have : ¬(((a j).toInt : ℝ) : EReal) = (((b j).toInt : ℝ) : EReal) := by
      intro g
      exact h (BitVec.eq_of_toInt_eq (by exact_mod_cast g))
    rw [if_neg h, decide_eq_false this]; rfl

/-- Where the label is the argmax, as a word. -/
theorem match_apply (x : FVec Ideal S524288x128 .f32) (y : IVec S524288 32) (n : Fin 524288) :
    matchOf x y (ix1 n) = if y (ix1 n) = guess (fun n l => (x (ix2 n l) : EReal)) n then 1#32 else 0#32 := by
  refine (equal_word y (argmaxOf x) (ix1 n)).trans ?_
  rw [argmax_apply]
  rfl

/-- A count of all rows or of none. -/
theorem card_const (p : Prop) [Decidable p] :
    (((Finset.univ.filter fun _ : Fin 524288 => p).card : ℝ) : EReal) = if p then ((524288 : ℝ) : EReal) else 0 := by
  by_cases h : p
  · rw [if_pos h, Finset.filter_true_of_mem fun _ _ => h, Finset.card_univ, Fintype.card_fin]
    norm_num
  · rw [if_neg h, Finset.filter_false_of_mem fun _ _ => h, Finset.card_empty]
    norm_num

/-- The rows counted at one lane when each row counts one of two words, by whether it matches. -/
theorem card_choice (P : Fin 524288 → Prop) [DecidablePred P] (a b w : BitVec 32) :
    (((Finset.univ.filter fun n : Fin 524288 => (if P n then b else a) = w).card : ℝ) : EReal)
      = (if w = a then ((524288 : ℝ) : EReal) - (((Finset.univ.filter P).card : ℝ) : EReal) else 0)
        + (if w = b then (((Finset.univ.filter P).card : ℝ) : EReal) else 0) := by
  have hs : ((524288 : ℝ) : EReal) - (((Finset.univ.filter P).card : ℝ) : EReal) = (((Finset.univ.filter fun n => ¬P n).card : ℝ) : EReal) := by
    rw [← EReal.coe_sub]
    congr 1
    have h := Finset.card_filter_add_card_filter_not (s := (Finset.univ : Finset (Fin 524288))) P
    rw [Finset.card_univ, Fintype.card_fin] at h
    have h' : ((Finset.univ.filter P).card : ℝ) + ((Finset.univ.filter fun n => ¬P n).card : ℝ) = 524288 := by exact_mod_cast h
    linarith
  have hsum : (((Finset.univ.filter fun n => ¬P n).card : ℝ) : EReal) + (((Finset.univ.filter P).card : ℝ) : EReal) = ((524288 : ℝ) : EReal) := by
    rw [← hs, ← EReal.coe_sub, ← EReal.coe_add]
    congr 1
    ring
  have hf : ∀ n, ((if P n then b else a) = w) = ((P n ∧ w = b) ∨ (¬P n ∧ w = a)) := by
    intro n
    by_cases h : P n <;> simp [h, eq_comm]
  rw [hs]
  simp only [hf]
  by_cases ha : w = a <;> by_cases hb : w = b
  · rw [if_pos ha, if_pos hb, hsum]
    have : ∀ n, ((P n ∧ w = b) ∨ (¬P n ∧ w = a)) = True := fun n => eq_true (by by_cases h : P n <;> simp [h, ha, hb] <;> rw [← ha, hb])
    simp only [this]
    exact (card_const True).trans (if_pos trivial)
  · rw [if_pos ha, if_neg hb, add_zero]
    have : ∀ n, ((P n ∧ w = b) ∨ (¬P n ∧ w = a)) = ¬P n := fun n =>
      propext ⟨fun h => h.elim (fun h => absurd h.2 hb) (·.1), fun h => .inr ⟨h, ha⟩⟩
    simp only [this]
  · rw [if_neg ha, if_pos hb, zero_add]
    have : ∀ n, ((P n ∧ w = b) ∨ (¬P n ∧ w = a)) = P n := fun n =>
      propext ⟨fun h => h.elim (·.1) (fun h => absurd h.2 ha), fun h => .inl ⟨h, hb⟩⟩
    simp only [this]
  · rw [if_neg ha, if_neg hb, add_zero]
    simp only [ha, hb, and_false, or_false]
    exact (card_const False).trans (if_neg id)

/-- A sum of ones is their number. -/
theorem sum_ones {N : ℕ} (x : IVec (Routing.shape1 N) 32) (hx : ∀ i, x i = 1#32) (h : (Routing.shape1 N).ReducesTo [0] Routing.shape0)
    (hu : 0 < Routing.shape0.numel) : Host.reduce IntOp.addi x (constantI Routing.shape0 32 0#32) h hu ix0 = BitVec.ofNat 32 N := by
  refine (Routing.reduce_sum x (fun _ => 1) (fun i => hx _) h hu).trans ?_
  simp

/-- A word broadcast as a float and added to zero. -/
theorem total_of (R : IVec S_ 32) (h : R ix0 = BitVec.ofNat 32 524288) (l : Fin 128) :
    addf (broadcastInDim S128 ![] bcast_S_S128 (constant S_ .f32 0x00000000#32 : FVec Ideal S_ .f32))
      (broadcastInDim S128 ![] bcast_S_S128 (sitofp .f32 R)) (ix1 l) = ((524288 : ℝ) : EReal) := by
  have h1 : broadcastInDim S128 ![] bcast_S_S128 (constant S_ .f32 0x00000000#32 : FVec Ideal S_ .f32) (ix1 l) = (0 : EReal) := by
    refine (Routing.bc0 bcast_S_S128 _ _).trans ?_
    show Ideal.ofBits .f32 0#32 = 0
    simp [Ideal.ofBits, Ideal.ieee]
  have h2 : broadcastInDim S128 ![] bcast_S_S128 (sitofp .f32 R : FVec Ideal S_ .f32) (ix1 l) = ((524288 : ℝ) : EReal) := by
    refine (Routing.bc0 bcast_S_S128 _ _).trans ?_
    show (((R ix0).toInt : ℝ) : EReal) = _
    rw [h, WordCmp.toInt_ofNat_of_lt (w := 32) (by norm_num)]
    norm_num
  show (broadcastInDim S128 ![] bcast_S_S128 (constant S_ .f32 0x00000000#32 : FVec Ideal S_ .f32) (ix1 l) : EReal)
    + broadcastInDim S128 ![] bcast_S_S128 (sitofp .f32 R : FVec Ideal S_ .f32) (ix1 l) = _
  rw [h1, h2, zero_add]

/-- The last row holds the number of rows. -/
theorem total_apply (l : Fin 128) : (totalOf (words 1#32) : FVec Ideal S128 .f32) (ix1 l) = ((524288 : ℝ) : EReal) :=
  total_of _ (sum_ones (words 1#32) (fun _ => rfl) reducesTo_S524288_S_d0 h_S_) l

/-- The reference's result is the specification's, when the first two labels are not negative. -/
theorem value_apply (x : FVec Ideal S524288x128 .f32) (y : IVec S524288 32) (h0 : 0 ≤ (y (ix1 (0 : Fin 524288))).toInt)
    (h1 : 0 ≤ (y (ix1 (1 : Fin 524288))).toInt) (r : Fin 4) (l : Fin 128) :
    value x y (ix2 r l) = spec (fun n l => (x (ix2 n l) : EReal)) (fun n => y (ix1 n)) r l := by
  unfold value spec
  have e0 : (histOf (takeOf (sitofp .f32 y : FVec Ideal S524288 .f32) (matchOf x y)) (ix1 l) : EReal)
      = (if BitVec.ofNat 32 l.val = y (ix1 (0 : Fin 524288)) then ((524288 : ℝ) : EReal)
          - ((hits (fun n l => (x (ix2 n l) : EReal)) (fun n => y (ix1 n)) : ℝ) : EReal) else 0)
        + (if BitVec.ofNat 32 l.val = y (ix1 (1 : Fin 524288)) then
          ((hits (fun n l => (x (ix2 n l) : EReal)) (fun n => y (ix1 n)) : ℝ) : EReal) else 0) := by
    refine (hist_of _ (fun n => if y (ix1 n) = guess (fun n l => (x (ix2 n l) : EReal)) n then y (ix1 (1 : Fin 524288)) else y (ix1 (0 : Fin 524288)))
      (fun n => ?_) (fun n => ?_) l).trans (card_choice _ _ _ _)
    · by_cases h : y (ix1 n) = guess (fun n l => (x (ix2 n l) : EReal)) n
      · rw [if_pos h]
        exact take_apply (sitofp .f32 y) (matchOf x y) n 1 ((match_apply x y n).trans (if_pos h))
      · rw [if_neg h]
        exact take_apply (sitofp .f32 y) (matchOf x y) n 0 ((match_apply x y n).trans (if_neg h))
    · split
      · exact h1
      · exact h0
  have e1 : (histOf (takeOf (sitofp .f32 (argmaxOf x) : FVec Ideal S524288 .f32) (words 1#32)) (ix1 l) : EReal)
      = if l = top (fun l : Fin 128 => (x (ix2 (1 : Fin 524288) l) : EReal)) then ((524288 : ℝ) : EReal) else 0 := by
    refine (hist_of _ (fun _ => BitVec.ofNat 32 (top fun l : Fin 128 => (x (ix2 (1 : Fin 524288) l) : EReal)).val)
      (fun n => ?_) (fun n => ?_) l).trans ((card_const _).trans ?_)
    · refine (take_apply (sitofp .f32 (argmaxOf x)) (words 1#32) n 1 rfl).trans ?_
      exact congrArg (fun w : BitVec 32 => ((w.toInt : ℝ) : EReal)) (argmax_apply x 1)
    · rw [toInt_lane]; omega
    · have hl : (BitVec.ofNat 32 (top fun l : Fin 128 => (x (ix2 (1 : Fin 524288) l) : EReal)).val = BitVec.ofNat 32 l.val)
          = (l = top fun l : Fin 128 => (x (ix2 (1 : Fin 524288) l) : EReal)) := by
        refine propext ⟨fun h => ?_, fun h => by rw [← h]⟩
        have g := congrArg BitVec.toInt h
        rw [toInt_lane, toInt_lane] at g
        exact Fin.ext (by exact_mod_cast g.symm)
      simp only [hl]
  have e2 : (histOf (takeOf (sitofp .f32 y : FVec Ideal S524288 .f32) (words 1#32)) (ix1 l) : EReal)
      = if BitVec.ofNat 32 l.val = y (ix1 (1 : Fin 524288)) then ((524288 : ℝ) : EReal) else 0 := by
    refine (hist_of _ (fun _ => y (ix1 (1 : Fin 524288))) (fun n => ?_) (fun n => h1) l).trans ((card_const _).trans ?_)
    · exact take_apply (sitofp .f32 y) (words 1#32) n 1 rfl
    · simp only [eq_comm]
  exact stack_value _ _ _ _ r l _ _ _ _ e0 e1 e2 (total_apply l)

/-- What the precondition says of the labels. -/
theorem pre_labels (x : FVec Ideal S524288x128 .f32) (y : IVec S524288 32)
    (h : Cert.Pre_first_two_nonnegative.fn (F := Ideal) x y = fun _ => 1#1) :
    0 ≤ (y (ix1 (0 : Fin 524288))).toInt ∧ 0 ≤ (y (ix1 (1 : Fin 524288))).toInt := by
  have key : ∀ k : Fin 2, 0 ≤ (y (ix1 (⟨k.val, by omega⟩ : Fin 524288))).toInt := by
    intro k
    have hk := congrFun h (ix1 k)
    have e : extractStridedSlice Cert.Pre_first_two_nonnegative.S2 ![0] y Cert.Pre_first_two_nonnegative.Facts.slices_S524288_S2_0 (ix1 k)
        = y (ix1 (⟨k.val, by omega⟩ : Fin 524288)) :=
      congrArg y (funext fun a => by fin_cases a; exact Fin.ext (Nat.zero_add _))
    have hk' : IntOp.cmpi .sge (extractStridedSlice Cert.Pre_first_two_nonnegative.S2 ![0] y Cert.Pre_first_two_nonnegative.Facts.slices_S524288_S2_0 (ix1 k)) 0#32 = 1#1 := hk
    rw [e, WordCmp.cmpi_sge_eq, WordCmp.ofBool_decide_eq_one_iff] at hk'
    exact hk'
  exact ⟨key 0, key 1⟩

end Cert.Proof.Ref
end
-- ==== Proof.lean ====
module

public import proofs.«01_k».proof.Defs
public import proofs.«01_k».proof.Proof.Gen.Packed
public import proofs.«01_k».proof.Proof.Gen.Packed.Skeleton
public import proofs.«01_k».proof.Proof.Gen.Packed.Launch
public import proofs.«01_k».proof.Proof.Gen.Packed.Points
public import proofs.«01_k».proof.Proof.Gen.Packed.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_first_two_nonnegative
public import Idealize.ShloMosaic.Adequacy
public import Idealize.ShloMosaic.Init
import proofs.«01_k».proof.Proof.Spec
import proofs.«01_k».proof.Proof.KernelValue
import proofs.«01_k».proof.Proof.RefRun
import proofs.«01_k».proof.Proof.RefValue
import Idealize.ShloMosaic.Lib.Claim
import Idealize.ShloMosaic.Lib.Quiescent

@[expose] public section

noncomputable section

namespace Cert.Proof

open Idealize.ShloMosaic Idealize.SL.Sem

/-- The reference's result at the kernel's arguments is the kernel's result, where the first two labels are
    not negative. -/
private theorem values_agree (x : FVec Ideal ReferenceIdeal.S524288x128 .f32) (y : IVec ReferenceIdeal.S524288 32)
    (h : Cert.Pre_first_two_nonnegative.fn (F := Ideal) x y = fun _ => 1#1) :
    Cert.Proof.Ref.value x y = fun j : ReferenceIdeal.S4x128.Idx =>
      spec (fun n l => x (ValueIdx.ix2 n l)) (fun n => y (ValueIdx.ix1 n)) (j 0) (j 1) := by
  funext j
  obtain ⟨h0, h1⟩ := Cert.Proof.Ref.pre_labels x y h
  have e := Cert.Proof.Ref.value_apply x y h0 h1 (j 0) (j 1)
  exact (congrArg (Cert.Proof.Ref.value x y) (ValueIdx.eq_ix2 j)).trans e

/-- The reference ends with its arguments unchanged and, having no semaphore, with every counter at zero. -/
private theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run _ _ _).mono (fun r h => ⟨fun c => (h c).2, sem_eq_zero_of_no_sems rfl r.2⟩) (Cert.Proof.Ref.run m ρ)

/-- The certificate. -/
theorem claim : Cert.Claim := ⟨Cert.Packed.Gen.facts, Cert.Kernel.Gen.facts, Cert.KernelIdeal.Gen.facts, Cert.ReferenceIdeal.Gen.facts, Cert.Pre_first_two_nonnegative.Gen.facts,
  fun m ρ _ => Cert.Packed.Gen.frame m ρ trivial,
  fun m ρ _ => Cert.Kernel.Gen.frame m ρ trivial,
  fun m ρ _ => Cert.KernelIdeal.Gen.frame m ρ trivial,
  fun m ρ _ => Cert.KernelIdeal.Gen.frame m ρ trivial,
  fun m ρ _ => reference_frame m ρ,
  fun m ρ _ => reference_frame m ρ,
  trivial, fun m g m' g' hpre hagree => ⟨
    fun c => fun j : Cert.KernelIdeal.S4x128.Idx => spec (Ker.logits m c) (Ker.labels m c) (j 0) (j 1),
    by
      run_from (Ker.run m g),
    by
      run_from (Cert.Proof.Ref.run m' g')
      exact values_agree _ _ (hpre _)⟩⟩

end Cert.Proof

end
